-- ==== Defs.lean ====
def Pre_Gather [hPre_in_range : Cert.Pre_in_range.Facts] (m : (ℓ : Loc Cert.Gather.nD Cert.Gather.τ Cert.Gather.sig) → Buf (Elt Bits) ℓ) : Prop :=
  ∀ c : Dev Cert.Gather.nD,
    (Cert.Pre_in_range.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_in_range : Cert.Pre_in_range.Facts] (m : (ℓ : Loc Cert.GatherIdeal.nD Cert.GatherIdeal.τ Cert.GatherIdeal.sig) → Buf (Elt Ideal) ℓ) : Prop :=
  ∀ c : Dev Cert.GatherIdeal.nD,
    (Cert.Pre_in_range.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_TakeIdeal (m : (ℓ : Loc Cert.TakeIdeal.nD Cert.TakeIdeal.τ Cert.TakeIdeal.sig) → Buf (Elt Ideal) ℓ) : Prop :=
  True

def Pre_TakeIdeal_in_range [hPre_in_range : Cert.Pre_in_range.Facts] (m : (ℓ : Loc Cert.TakeIdeal.nD Cert.TakeIdeal.τ Cert.TakeIdeal.sig) → Buf (Elt Ideal) ℓ) : Prop :=
  ∀ c : Dev Cert.TakeIdeal.nD,
    (Cert.Pre_in_range.fn (F := Ideal) (m ((c.tc : Thread Cert.TakeIdeal.nD Cert.TakeIdeal.τ).loc Cert.TakeIdeal.main_arg0)) (m ((c.tc : Thread Cert.TakeIdeal.nD Cert.TakeIdeal.τ).loc Cert.TakeIdeal.main_arg1))) = (fun _ => 1#1)

def Pre_KernelIdeal (m : (ℓ : Loc Cert.KernelIdeal.nD Cert.KernelIdeal.τ Cert.KernelIdeal.sig) → Buf (Elt Ideal) ℓ) : Prop :=
  True

def Pre_KernelIdeal_apart [hPre_apart : Cert.Pre_apart.Facts] (m : (ℓ : Loc Cert.KernelIdeal.nD Cert.KernelIdeal.τ Cert.KernelIdeal.sig) → Buf (Elt Ideal) ℓ) : Prop :=
  ∀ c : Dev Cert.KernelIdeal.nD,
    (Cert.Pre_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_apart [hPre_apart : Cert.Pre_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Gather [hGather : Cert.Gather.Facts] [hPre_in_range : Cert.Pre_in_range.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_TakeIdeal [hTakeIdeal : Cert.TakeIdeal.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def quiescent_TakeIdeal_pre_in_range [hTakeIdeal : Cert.TakeIdeal.Facts] [hPre_in_range : Cert.Pre_in_range.Facts] : Prop :=
  ∀ (m : (ℓ : Loc Cert.TakeIdeal.nD Cert.TakeIdeal.τ Cert.TakeIdeal.sig) → Buf (Elt Ideal) ℓ) (g : Dev Cert.TakeIdeal.nD → PrngReg), Pre_TakeIdeal_in_range m →
    θ_run (Cert.TakeIdeal.defs (F := Ideal)) (onTc (τ := Cert.TakeIdeal.τ) (Cert.TakeIdeal.main (F := Ideal))) ⟨m, fun _ => 0, g⟩ (fun r => (∀ c : Dev Cert.TakeIdeal.nD,
      r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_apart [hKernelIdeal : Cert.KernelIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_apart m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_apart [hReferenceIdeal : Cert.ReferenceIdeal.Facts] [hPre_apart : Cert.Pre_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Gather_GatherIdeal : Prop :=
  True

def algebraic_GatherIdeal_TakeIdeal [hGatherIdeal : Cert.GatherIdeal.Facts] [hTakeIdeal : Cert.TakeIdeal.Facts] [hPre_in_range : Cert.Pre_in_range.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.TakeIdeal.nD Cert.TakeIdeal.τ Cert.TakeIdeal.sig) → Buf (Elt Ideal) ℓ) (g' : Dev Cert.TakeIdeal.nD → PrngReg), Pre_GatherIdeal m →
    (∀ c : Dev Cert.GatherIdeal.nD,
      m' ((c.tc : Thread Cert.TakeIdeal.nD Cert.TakeIdeal.τ).loc Cert.TakeIdeal.main_arg0) = m ((c.tc : Thread Cert.GatherIdeal.nD Cert.GatherIdeal.τ).loc Cert.GatherIdeal.main_arg0)
      ∧ m' ((c.tc : Thread Cert.TakeIdeal.nD Cert.TakeIdeal.τ).loc Cert.TakeIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v2)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v2) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.TakeIdeal.defs (F := Ideal)) (onTc (τ := Cert.TakeIdeal.τ) (Cert.TakeIdeal.main (F := Ideal))) ⟨m', fun _ => 0, g'⟩ (fun r => ∀ c : Dev Cert.TakeIdeal.nD,
          r.2.mem ((c.tc : Thread Cert.TakeIdeal.nD Cert.TakeIdeal.τ).loc Cert.TakeIdeal.main_v0) = v0 c
          ∧ r.2.mem ((c.tc : Thread Cert.TakeIdeal.nD Cert.TakeIdeal.τ).loc Cert.TakeIdeal.main_arg0) = m' ((c.tc : Thread Cert.TakeIdeal.nD Cert.TakeIdeal.τ).loc Cert.TakeIdeal.main_arg0)
          ∧ r.2.mem ((c.tc : Thread Cert.TakeIdeal.nD Cert.TakeIdeal.τ).loc Cert.TakeIdeal.main_arg1) = m' ((c.tc : Thread Cert.TakeIdeal.nD Cert.TakeIdeal.τ).loc Cert.TakeIdeal.main_arg1))

def algebraic_KernelIdeal_ReferenceIdeal_pre_apart [hKernelIdeal : Cert.KernelIdeal.Facts] [hReferenceIdeal : Cert.ReferenceIdeal.Facts] [hPre_apart : Cert.Pre_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hGather : Cert.Gather.Facts) (hGatherIdeal : Cert.GatherIdeal.Facts) (hTakeIdeal : Cert.TakeIdeal.Facts) (hKernelIdeal : Cert.KernelIdeal.Facts) (hReferenceIdeal : Cert.ReferenceIdeal.Facts) (hPre_in_range : Cert.Pre_in_range.Facts) (hPre_apart : Cert.Pre_apart.Facts),
    quiescent_Gather (hGather := hGather) (hPre_in_range := hPre_in_range)
    ∧ quiescent_GatherIdeal (hGatherIdeal := hGatherIdeal) (hPre_in_range := hPre_in_range)
    ∧ quiescent_TakeIdeal (hTakeIdeal := hTakeIdeal)
    ∧ quiescent_TakeIdeal_pre_in_range (hTakeIdeal := hTakeIdeal) (hPre_in_range := hPre_in_range)
    ∧ quiescent_KernelIdeal (hKernelIdeal := hKernelIdeal)
    ∧ quiescent_KernelIdeal_pre_apart (hKernelIdeal := hKernelIdeal) (hPre_apart := hPre_apart)
    ∧ quiescent_ReferenceIdeal (hReferenceIdeal := hReferenceIdeal)
    ∧ quiescent_ReferenceIdeal_pre_apart (hReferenceIdeal := hReferenceIdeal) (hPre_apart := hPre_apart)
    ∧ preserves_Gather_GatherIdeal
    ∧ algebraic_GatherIdeal_TakeIdeal (hGatherIdeal := hGatherIdeal) (hTakeIdeal := hTakeIdeal) (hPre_in_range := hPre_in_range)
    ∧ algebraic_KernelIdeal_ReferenceIdeal_pre_apart (hKernelIdeal := hKernelIdeal) (hReferenceIdeal := hReferenceIdeal) (hPre_apart := hPre_apart)
-- ==== Pre_apart.lean ====
abbrev S65536x64 : Shape := ⟨2, ![65536, 64]⟩
abbrev S8192x64 : Shape := ⟨2, ![8192, 64]⟩
abbrev S_ : Shape := ⟨0, ![]⟩
abbrev S65536 : Shape := ⟨1, ![65536]⟩
abbrev S65536x1 : Shape := ⟨2, ![65536, 1]⟩
abbrev S8192 : Shape := ⟨1, ![8192]⟩
abbrev S1x8192 : Shape := ⟨2, ![1, 8192]⟩
abbrev S65536x8192 : Shape := ⟨2, ![65536, 8192]⟩
abbrev S64x8192 : Shape := ⟨2, ![64, 8192]⟩

class Facts : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S8192x64_S8192_d1 : S8192x64.ReducesTo [1] S8192
  bcast_S8192_S1x8192_1 : S8192.BroadcastsInDim S1x8192 (![1] : Fin 1 → Fin S1x8192.rank)
  bcast_S65536x1_S65536x8192_0_1 : S65536x1.BroadcastsInDim S65536x8192 (![0, 1] : Fin 2 → Fin S65536x8192.rank)
  bcast_S1x8192_S65536x8192_0_1 : S1x8192.BroadcastsInDim S65536x8192 (![0, 1] : Fin 2 → Fin S65536x8192.rank)
  transposes_S8192x64_S64x8192_1_0 : S8192x64.Transposes [1, 0] S64x8192
  bcast_S_S65536x8192 : S_.BroadcastsInDim S65536x8192 (![] : Fin 0 → Fin S65536x8192.rank)
  bcast_S_S65536x64 : S_.BroadcastsInDim S65536x64 (![] : Fin 0 → Fin S65536x64.rank)
  reducesTo_S65536x64_S_d0_1 : S65536x64.ReducesTo [0, 1] S_
  bcast_S_S8192x64 : S_.BroadcastsInDim S8192x64 (![] : Fin 0 → Fin S8192x64.rank)
  reducesTo_S8192x64_S_d0_1 : S8192x64.ReducesTo [0, 1] S_
  reducesTo_S65536x8192_S_d0_1 : S65536x8192.ReducesTo [0, 1] S_
  dot_S65536x64_S64x8192_S65536x8192_1_0_0_1_n_n_wf : DotDims.WF S65536x64 S64x8192 S65536x8192 [1] [0] [0] [1] [] []

variable [Facts]

def dot_S65536x64_S64x8192_S65536x8192_1_0_0_1_n_n : DotDims S65536x64 S64x8192 S65536x8192 where
  lhsContracting := [1]
  rhsContracting := [0]
  lhsNonContracting := [0]
  rhsNonContracting := [1]
  lhsBatch := []
  rhsBatch := []
  wf := dot_S65536x64_S64x8192_S65536x8192_1_0_0_1_n_n_wf
def fn_part1 {F : FTy → Type} [FloatOps F] (main_v13 : FVec F S65536x8192 .f32) (main_v17 : IVec S_ 1) (main_v18 : FVec F S8192x64 .f32) : IVec S_ 1 :=
  let main_cst_3 : FVec F S_ .f32 := constant S_ .f32 0x7F800000#32
  let main_v19 : FVec F S8192x64 .f32 := broadcastInDim S8192x64 ![] bcast_S_S8192x64 main_cst_3
  let main_v20 : IVec S8192x64 1 := cmpf .olt main_v18 main_v19
  let main_c_4 : IVec S_ 1 := constantI S_ 1 1#1
  let main_v21 : IVec S_ 1 := (fun x v => Host.reduce IntOp.andi x v reducesTo_S8192x64_S_d0_1 h_S_) main_v20 main_c_4
  let main_v22 : IVec S_ 1 := andi main_v17 main_v21
  let main_cst_5 : FVec F S_ .f32 := constant S_ .f32 0x00800000#32
  let main_v23 : FVec F S65536x8192 .f32 := broadcastInDim S65536x8192 ![] bcast_S_S65536x8192 main_cst_5
  let main_v24 : IVec S65536x8192 1 := cmpf .oge main_v13 main_v23
  let main_c_6 : IVec S_ 1 := constantI S_ 1 1#1
  let main_v25 : IVec S_ 1 := (fun x v => Host.reduce IntOp.andi x v reducesTo_S65536x8192_S_d0_1 h_S_) main_v24 main_c_6
  let main_v26 : IVec S_ 1 := andi main_v22 main_v25
  main_v26

def fn {F : FTy → Type} [FloatOps F] (main_arg0 : FVec F S65536x64 .f32) (main_arg1 : FVec F S8192x64 .f32) : IVec S_ 1 :=
  let main_v0 : FVec F S65536x64 .f32 := mulf main_arg0 main_arg0
  let main_cst : FVec F S_ .f32 := constant S_ .f32 0x00000000#32
  let main_v1 : FVec F S65536 .f32 := (fun x v => Host.reduceAdd x v reducesTo_S65536x64_S65536_d1 h_S_) main_v0 main_cst
  let main_v2 : FVec F S65536x1 .f32 := broadcastInDim S65536x1 ![0] bcast_S65536_S65536x1_0 main_v1
  let main_v3 : FVec F S8192x64 .f32 := mulf main_arg1 main_arg1
  let main_cst_0 : FVec F S_ .f32 := constant S_ .f32 0x00000000#32
  let main_v4 : FVec F S8192 .f32 := (fun x v => Host.reduceAdd x v reducesTo_S8192x64_S8192_d1 h_S_) main_v3 main_cst_0
  let main_v5 : FVec F S1x8192 .f32 := broadcastInDim S1x8192 ![1] bcast_S8192_S1x8192_1 main_v4
  let main_v6 : FVec F S65536x8192 .f32 := broadcastInDim S65536x8192 ![0, 1] bcast_S65536x1_S65536x8192_0_1 main_v2
  let main_v7 : FVec F S65536x8192 .f32 := broadcastInDim S65536x8192 ![0, 1] bcast_S1x8192_S65536x8192_0_1 main_v5
  let main_v8 : FVec F S65536x8192 .f32 := addf main_v6 main_v7
  let main_v9 : FVec F S64x8192 .f32 := (transpose S64x8192 [1, 0] · transposes_S8192x64_S64x8192_1_0) main_arg1
  let main_v10 : FVec F S65536x8192 .f32 := (fun l r => Host.dotGeneral dot_S65536x64_S64x8192_S65536x8192_1_0_0_1_n_n none l r) main_arg0 main_v9
  let main_cst_1 : FVec F S_ .f32 := constant S_ .f32 0x40000000#32
  let main_v11 : FVec F S65536x8192 .f32 := broadcastInDim S65536x8192 ![] bcast_S_S65536x8192 main_cst_1
  let main_v12 : FVec F S65536x8192 .f32 := mulf main_v11 main_v10
  let main_v13 : FVec F S65536x8192 .f32 := subf main_v8 main_v12
  let main_v14 : FVec F S65536x64 .f32 := Host.absf main_arg0
  let main_cst_2 : FVec F S_ .f32 := constant S_ .f32 0x7F800000#32
  let main_v15 : FVec F S65536x64 .f32 := broadcastInDim S65536x64 ![] bcast_S_S65536x64 main_cst_2
  let main_v16 : IVec S65536x64 1 := cmpf .olt main_v14 main_v15
  let main_c : IVec S_ 1 := constantI S_ 1 1#1
  let main_v17 : IVec S_ 1 := (fun x v => Host.reduce IntOp.andi x v reducesTo_S65536x64_S_d0_1 h_S_) main_v16 main_c
  let main_v18 : FVec F S8192x64 .f32 := Host.absf main_arg1
  fn_part1 (F := F) main_v13 main_v17 main_v18
-- ==== Pre_in_range.lean ====
abbrev S8192x64 : Shape := ⟨2, ![8192, 64]⟩
abbrev S65536 : Shape := ⟨1, ![65536]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel

variable [Facts]

def fn {F : FTy → Type} [FloatOps F] (main_arg0 : FVec F S8192x64 .f32) (main_arg1 : IVec S65536 32) : IVec S_ 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 8192#32
  let main_v2 : IVec S65536 32 := broadcastInDim S65536 ![] bcast_S_S65536 main_c_0
  let main_v3 : IVec S65536 1 := cmpi .slt main_arg1 main_v2
  let main_v4 : IVec S65536 1 := andi main_v1 main_v3
  let main_c_1 : IVec S_ 1 := constantI S_ 1 1#1
  let main_v5 : IVec S_ 1 := (fun x v => Host.reduce IntOp.andi x v reducesTo_S65536_S_d0 h_S_) main_v4 main_c_1
  main_v5
-- ==== Gather.lean ====
abbrev S8192x64 : Shape := ⟨2, ![8192, 64]⟩
abbrev S65536 : Shape := ⟨1, ![65536]⟩
abbrev S_ : Shape := ⟨0, ![]⟩
abbrev S8192x128 : Shape := ⟨2, ![8192, 128]⟩
abbrev S65536x128 : Shape := ⟨2, ![65536, 128]⟩
abbrev S2048 : Shape := ⟨1, ![2048]⟩
abbrev S128x128 : Shape := ⟨2, ![128, 128]⟩
abbrev S128 : Shape := ⟨1, ![128]⟩
abbrev S65536x64 : Shape := ⟨2, ![65536, 64]⟩

abbrev nBuf : Table → Nat
  | .hbm => 7
  | .local .scVector .vmem => 5
  | _ => 0

abbrev bufTy : (tb : Table) → Fin (nBuf tb) → BufTy
  | .hbm, ⟨0, _⟩ => ⟨S8192x64, .f32⟩
  | .hbm, ⟨1, _⟩ => ⟨S65536, .i32⟩
  | .hbm, ⟨2, _⟩ => ⟨S_, .i32⟩
  | .hbm, ⟨3, _⟩ => ⟨S_, .f32⟩
  | .hbm, ⟨4, _⟩ => ⟨S8192x128, .f32⟩
  | .hbm, ⟨5, _⟩ => ⟨S65536x128, .f32⟩
  | .hbm, ⟨6, _⟩ => ⟨S65536x64, .f32⟩
  | .local .scVector .vmem, ⟨0, _⟩ => ⟨S2048, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S8192x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v0_scv : Ref sig .scVector := ⟨.hbm, 4, rfl⟩
abbrev main_arg1_scv : Ref sig .scVector := ⟨.hbm, 1, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
def k0_off2 (i : grid0.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v9 : BitVec 32 := Scalar.addi v2 c0_i32_7
  let c0_i32_8 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== TakeIdeal.lean ====
abbrev S8192x64 : Shape := ⟨2, ![8192, 64]⟩
abbrev S65536 : Shape := ⟨1, ![65536]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x64 : Shape := ⟨2, ![65536, 64]⟩

abbrev nBuf : Space → Nat
  | .hbm => 25
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S65536, .i32⟩
  | .hbm, ⟨2, _⟩ => ⟨S_, .i32⟩
  | .hbm, ⟨3, _⟩ => ⟨S65536, .i32⟩
  | .hbm, ⟨4, _⟩ => ⟨S65536, .i1⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S1, .i32⟩
  | .hbm, ⟨11, _⟩ => ⟨S_, .i32⟩
  | .hbm, ⟨12, _⟩ => ⟨S65536x1, .i32⟩
  | .hbm, ⟨13, _⟩ => ⟨S65536x1, .i1⟩
  | .hbm, ⟨14, _⟩ => ⟨S1x1, .i32⟩
  | .hbm, ⟨15, _⟩ => ⟨S65536x1, .i32⟩
  | .hbm, ⟨16, _⟩ => ⟨S65536x1, .i1⟩
  | .hbm, ⟨17, _⟩ => ⟨S65536x1, .i1⟩
  | .hbm, ⟨18, _⟩ => ⟨S_, .i1⟩
  | .hbm, ⟨19, _⟩ => ⟨S65536, .i1⟩
  | .hbm, ⟨20, _⟩ => ⟨S65536x64, .f32⟩
  | .hbm, ⟨21, _⟩ => ⟨S65536x64, .i1⟩
  | .hbm, ⟨22, _⟩ => ⟨S_, .f32⟩
  | .hbm, ⟨23, _⟩ => ⟨S65536x64, .f32⟩
  | .hbm, ⟨24, _⟩ => ⟨S65536x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== KernelIdeal.lean ====
abbrev S65536x64 : Shape := ⟨2, ![65536, 64]⟩
abbrev S8192x64 : Shape := ⟨2, ![8192, 64]⟩
abbrev S_ : Shape := ⟨0, ![]⟩
abbrev S65536 : Shape := ⟨1, ![65536]⟩
abbrev S65536x1 : Shape := ⟨2, ![65536, 1]⟩
abbrev S8192 : Shape := ⟨1, ![8192]⟩
abbrev S1x8192 : Shape := ⟨2, ![1, 8192]⟩
abbrev S1x65536 : Shape := ⟨2, ![1, 65536]⟩
abbrev S1x1 : Shape := ⟨2, ![1, 1]⟩
abbrev S512x1 : Shape := ⟨2, ![512, 1]⟩
abbrev S512x64 : Shape := ⟨2, ![512, 64]⟩
abbrev S1x512 : Shape := ⟨2, ![1, 512]⟩
abbrev S256x64 : Shape := ⟨2, ![256, 64]⟩
abbrev S256x1 : Shape := ⟨2, ![256, 1]⟩
abbrev S2048x64 : Shape := ⟨2, ![2048, 64]⟩
abbrev S256x2048 : Shape := ⟨2, ![256, 2048]⟩
abbrev S1x2048 : Shape := ⟨2, ![1, 2048]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S8192x128 : Shape := ⟨2, ![8192, 128]⟩
abbrev S65536x128 : Shape := ⟨2, ![65536, 128]⟩
abbrev S2048 : Shape := ⟨1, ![2048]⟩
abbrev S128x128 : Shape := ⟨2, ![128, 128]⟩
abbrev S128 : Shape := ⟨1, ![128]⟩

abbrev nBuf : Table → Nat
  | .hbm => 22
  | .local .tc .vmem => 9
  | .local .scVector .vmem => 5
  | _ => 0

abbrev bufTy : (tb : Table) → Fin (nBuf tb) → BufTy
  | .hbm, ⟨0, _⟩ => ⟨S65536x64, .f32⟩
  | .hbm, ⟨1, _⟩ => ⟨S8192x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x64, .f32⟩
  | .hbm, ⟨11, _⟩ => ⟨S1x65536, .i32⟩
  | .hbm, ⟨12, _⟩ => ⟨S1x1, .f32⟩
  | .hbm, ⟨13, _⟩ => ⟨S_, .i32⟩
  | .hbm, ⟨14, _⟩ => ⟨S_, .f32⟩
  | .hbm, ⟨15, _⟩ => ⟨S8192x128, .f32⟩
  | .hbm, ⟨16, _⟩ => ⟨S65536, .i32⟩
  | .hbm, ⟨17, _⟩ => ⟨S65536x128, .f32⟩
  | .hbm, ⟨18, _⟩ => ⟨S65536x64, .f32⟩
  | .hbm, ⟨19, _⟩ => ⟨S65536x64, .f32⟩
  | .hbm, ⟨20, _⟩ => ⟨S65536x64, .f32⟩
  | .hbm, ⟨21, _⟩ => ⟨S_, .f32⟩
  | .local .tc .vmem, ⟨0, _⟩ => ⟨S512x1, .f32⟩
  | .local .tc .vmem, ⟨1, _⟩ => ⟨S512x1, .f32⟩
  | .local .tc .vmem, ⟨2, _⟩ => ⟨S1x8192, .f32⟩
  | .local .tc .vmem, ⟨3, _⟩ => ⟨S512x64, .f32⟩
  | .local .tc .vmem, ⟨4, _⟩ => ⟨S512x64, .f32⟩
  | .local .tc .vmem, ⟨5, _⟩ => ⟨S8192x64, .f32⟩
  | .local .tc .vmem, ⟨6, _⟩ => ⟨S1x512, .i32⟩
  | .local .tc .vmem, ⟨7, _⟩ => ⟨S1x512, .i32⟩
  | .local .tc .vmem, ⟨8, _⟩ => ⟨S1x1, .f32⟩
  | .local .scVector .vmem, ⟨0, _⟩ => ⟨S2048, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S65536x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v8_scv : Ref sig .scVector := ⟨.hbm, 15, rfl⟩
abbrev main_v9_scv : Ref sig .scVector := ⟨.hbm, 16, rfl⟩
abbrev main_v10_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
def k1_off2 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v9 : BitVec 32 := Scalar.addi v2 c0_i32_7
  let c0_i32_8 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x64 : Shape := ⟨2, ![65536, 64]⟩
abbrev S8192x64 : Shape := ⟨2, ![8192, 64]⟩
abbrev S_ : Shape := ⟨0, ![]⟩
abbrev S65536 : Shape := ⟨1, ![65536]⟩
abbrev S65536x1 : Shape := ⟨2, ![65536, 1]⟩
abbrev S8192 : Shape := ⟨1, ![8192]⟩
abbrev S1x8192 : Shape := ⟨2, ![1, 8192]⟩
abbrev S65536x8192 : Shape := ⟨2, ![65536, 8192]⟩
abbrev S64x8192 : Shape := ⟨2, ![64, 8192]⟩
abbrev S1 : Shape := ⟨1, ![1]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S8192x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S65536x8192, .f32⟩
  | .hbm, ⟨11, _⟩ => ⟨S65536x8192, .f32⟩
  | .hbm, ⟨12, _⟩ => ⟨S65536x8192, .f32⟩
  | .hbm, ⟨13, _⟩ => ⟨S64x8192, .f32⟩
  | .hbm, ⟨14, _⟩ => ⟨S65536x8192, .f32⟩
  | .hbm, ⟨15, _⟩ => ⟨S_, .f32⟩
  | .hbm, ⟨16, _⟩ => ⟨S65536x8192, .f32⟩
  | .hbm, ⟨17, _⟩ => ⟨S65536x8192, .f32⟩
  | .hbm, ⟨18, _⟩ => ⟨S65536x8192, .f32⟩
  | .hbm, ⟨19, _⟩ => ⟨S_, .f32⟩
  | .hbm, ⟨20, _⟩ => ⟨S65536x8192, .f32⟩
  | .hbm, ⟨21, _⟩ => ⟨S65536x8192, .f32⟩
  | .hbm, ⟨22, _⟩ => ⟨S65536x8192, .f32⟩
  | .hbm, ⟨23, _⟩ => ⟨S65536x8192, .i32⟩
  | .hbm, ⟨24, _⟩ => ⟨S_, .f32⟩
  | .hbm, ⟨25, _⟩ => ⟨S_, .i32⟩
  | .hbm, ⟨26, _⟩ => ⟨S65536, .f32⟩
  | .hbm, ⟨27, _⟩ => ⟨S65536, .i32⟩
  | .hbm, ⟨28, _⟩ => ⟨S_, .i32⟩
  | .hbm, ⟨29, _⟩ => ⟨S65536, .i32⟩
  | .hbm, ⟨30, _⟩ => ⟨S65536, .i1⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S65536, .i32⟩
  | .hbm, ⟨35, _⟩ => ⟨S65536x1, .i32⟩
  | .hbm, ⟨36, _⟩ => ⟨S1, .i32⟩
  | .hbm, ⟨37, _⟩ => ⟨S_, .i32⟩
  | .hbm, ⟨38, _⟩ => ⟨S65536x1, .i32⟩
  | .hbm, ⟨39, _⟩ => ⟨S65536x1, .i1⟩
  | .hbm, ⟨40, _⟩ => ⟨S1x1, .i32⟩
  | .hbm, ⟨41, _⟩ => ⟨S65536x1, .i32⟩
  | .hbm, ⟨42, _⟩ => ⟨S65536x1, .i1⟩
  | .hbm, ⟨43, _⟩ => ⟨S65536x1, .i1⟩
  | .hbm, ⟨44, _⟩ => ⟨S_, .i1⟩
  | .hbm, ⟨45, _⟩ => ⟨S65536, .i1⟩
  | .hbm, ⟨46, _⟩ => ⟨S65536x64, .f32⟩
  | .hbm, ⟨47, _⟩ => ⟨S65536x64, .i1⟩
  | .hbm, ⟨48, _⟩ => ⟨S_, .f32⟩
  | .hbm, ⟨49, _⟩ => ⟨S65536x64, .f32⟩
  | .hbm, ⟨50, _⟩ => ⟨S65536x64, .f32⟩
  | .hbm, ⟨51, _⟩ => ⟨S65536x64, .f32⟩
  | .hbm, ⟨52, _⟩ => ⟨S65536x64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S65536x64, .f32⟩
  | .hbm, ⟨58, _⟩ => ⟨S65536x64, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S65536x64, .f32⟩
  | .hbm, ⟨64, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_3 : Ref sig .tc := ⟨.hbm, 53, rfl⟩
abbrev main_v21 : Ref sig .tc := ⟨.hbm, 54, rfl⟩
abbrev main_cst_4 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_5 : Ref sig .tc := ⟨.hbm, 59, rfl⟩
abbrev main_v25 : Ref sig .tc := ⟨.hbm, 60, rfl⟩
abbrev main_cst_6 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩

abbrev nD : Nat := 1
abbrev τ : Topo := Topo.v7x

variable {F : FTy → Type} [FloatOps F]
-- ==== Proof.GatherSet.lean ====
/-
  The row-gathering call, one task. Vector subcore `(c, s)` fetches its 2048 row numbers and then, sixteen times,
  gathers 128 rows of the padded table into one of four row buffers and copies that buffer to its place in the
  result. What it leaves there is stated exactly: row `r` of the result is the table's row numbered by `idx r`.
  Everything is generic in the reading `F` of the floats, since the task only moves them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Gather
public import proofs.«01_k».proof.Proof.Gen.Gather.Skeleton

@[expose] public section

set_option maxRecDepth 16384

noncomputable section

namespace Cert.Proof.Rows

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch reads it -/

/-- The labels of the program with its calls. -/
abbrev ΛP : Labels := Pipeline.Sig Λ₀ (Fin 0) fun p => (pcfgs (F := F) p).Adm
/-- The SparseCore part of the program. -/
abbrev K : SparseCore.Cfg τ sig (ΛP (F := F)) 1 := sc (F := F)
/-- What each call runs. -/
abbrev D [FloatOps F] : Defs nD τ sig (Elt F) (ΛP (F := F)) := Pipeline.defs pcfgs defs₀
/-- No loop of the program needs a measure. -/
abbrev 𝒱₀ : Variants := Variants.none
/-- No loop of the program needs a measure, as the launch asks for it. -/
abbrev 𝒱 : Variants := 𝒱₀.lift
/-- The measure at the start. -/
abbrev v₀ : 𝒱.V := Sum.inl none

/-- The launch semaphores differ from one another and outlive the calls. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' accounts. -/
abbrev UH : Type := URounds (GSem nD τ sig) ℕ
/-- All the accounts of the launch. -/
abbrev UU : Type := UH × Counters

local notation "𝕄" => MT nD τ sig (HIx 1) (Elt F) ℕ UU ℕ

/-- Where the handshakes' accounts live among all. -/
abbrev EH : Emb UH (MT nD τ sig (HIx 1) (Elt F) ℕ UU ℕ) := embL

/-! ## The arrays and the scratch -/

/-- Where the row numbers lie. -/
abbrev iLoc (d : Dev nD) : Loc nD τ sig := (SparseCore.T d).loc main_arg1
/-- Where the padded table lies. -/
abbrev xLoc (d : Dev nD) : Loc nD τ sig := (SparseCore.T d).loc main_v0
/-- Where the gathered rows lie. -/
abbrev oLoc (d : Dev nD) : Loc nD τ sig := (SparseCore.T d).loc main_v1

local notation "iV" => (Memref.whole main_arg1_scv : Memref sig Kind.scVector Space.hbm S65536 EltTy.i32)
local notation "xV" => (Memref.whole main_v0_scv : Memref sig Kind.scVector Space.hbm S8192x128 EltTy.f32)
local notation "oV" => (Memref.whole main_v1_scv : Memref sig Kind.scVector Space.hbm S65536x128 EltTy.f32)
local notation "sV" => (Memref.whole cc0_scratch0 : Memref sig Kind.scVector Space.vmem S2048 EltTy.i32)
local notation "aV" => (Memref.whole cc0_scratch1 : Memref sig Kind.scVector Space.vmem S128x128 EltTy.f32)
local notation "bV" => (Memref.whole cc0_scratch2 : Memref sig Kind.scVector Space.vmem S128x128 EltTy.f32)
local notation "cV" => (Memref.whole cc0_scratch3 : Memref sig Kind.scVector Space.vmem S128x128 EltTy.f32)
local notation "eV" => (Memref.whole cc0_scratch4 : Memref sig Kind.scVector Space.vmem S128x128 EltTy.f32)

/-- The core and the subcore a task runs on. -/
abbrev cr (L : grid0.Coords) : Fin τ.nSC := (L 0).castLE hcore0
/-- The subcore a task runs on. -/
abbrev sr (L : grid0.Coords) : Fin τ.nSub := (L 1).castLE hsub0
/-- The thread of a task. -/
abbrev tl (d : Dev nD) (L : grid0.Coords) : Thread nD τ := V d (cr L) (sr L)

/-- The first row a task handles. -/
def base (L : grid0.Coords) : ℕ := 4096 * (L 1).val + 2048 * (L 0).val

/-- A task's 2048 rows lie within the result. -/
theorem base_le (L : grid0.Coords) : base L + 2048 ≤ 65536 := by
  have h0 : (L 0).val < 2 := (L 0).isLt
  have h1 : (L 1).val < 16 := (L 1).isLt
  unfold base; omega

/-- The task's run of `idx`, as a rectangle of it and as the task addresses it. -/
abbrev iRect (L : grid0.Coords) : Rect S65536 := Rect.unit (s := S65536) (k0_off1 L) S2048.size (k0_off1_inb L)
/-- The task's run of the row numbers, as the task addresses it. -/
abbrev iMem (L : grid0.Coords) : Memref sig .scVector .hbm S2048 .i32 := (iV).slice (iRect L) (fun _ => rfl)
/-- Chunk `k` of the fetched row numbers. -/
theorem sMem_inb (k : Fin 16) : ∀ a, (![128 * k.val] : Fin 1 → Nat) a + S128.size a ≤ S2048.size a := by
  revert k; decide
/-- Chunk `k` of the fetched row numbers, as a rectangle. -/
abbrev sRect (k : Fin 16) : Rect S2048 := Rect.unit (s := S2048) ![128 * k.val] S128.size (sMem_inb k)
/-- Chunk `k` of the fetched row numbers, as the task addresses it. -/
abbrev sMem (k : Fin 16) : Memref sig .scVector .vmem S128 .i32 := (sV).slice (sRect k) (fun _ => rfl)
/-- Chunk `k` of the task's rows of the result. -/
abbrev oRect (L : grid0.Coords) (k : Fin 16) : Rect S65536x128 :=
  Rect.unit (s := S65536x128) (k0_off2 L (BitVec.ofNat 32 (128 * k.val))) S128x128.size (k0_off2_inb L k)
/-- Chunk `k` of the task's rows of the result, as the task addresses it. -/
abbrev oMem (L : grid0.Coords) (k : Fin 16) : Memref sig .scVector .hbm S128x128 .f32 := (oV).slice (oRect L k) (fun _ => rfl)

/-! ## Which elements each part is -/

/-- The places of a task's run of the row numbers. -/
abbrev iSet (L : grid0.Coords) : Finset S65536.Idx := (iMem L).view.set
/-- The places of chunk `k` of a task's rows of the result. -/
abbrev oSet (L : grid0.Coords) (k : Fin 16) : Finset S65536x128.Idx := (oMem L k).view.set
/-- The places of chunk `k` of the fetched row numbers. -/
abbrev sSet (k : Fin 16) : Finset S2048.Idx := (sMem k).view.set

/-- A task's row numbers are the 2048 from its first row on. -/
theorem mem_iSet (L : grid0.Coords) (j : S65536.Idx) :
    j ∈ iSet L ↔ base L ≤ (j 0).val ∧ (j 0).val < base L + 2048 := by
  change j ∈ ((View.whole (main_arg1_scv : Ref sig .scVector)).slice (iRect L)).set ↔ _
  rw [View.set_slice_whole, Rect.mem_set_unit, k0_off1_eq]
  simp only [base]
  exact Fin.forall_fin_one

/-- A chunk of a task's rows is 128 whole rows of the result. -/
theorem mem_oSet (L : grid0.Coords) (k : Fin 16) (j : S65536x128.Idx) :
    j ∈ oSet L k ↔ base L + 128 * k.val ≤ (j 0).val ∧ (j 0).val < base L + 128 * k.val + 128 := by
  change j ∈ ((View.whole (main_v1_scv : Ref sig .scVector)).slice (oRect L k)).set ↔ _
  rw [View.set_slice_whole, Rect.mem_set_unit, k0_off2_eq]
  have h1 : (j 1).val < 128 := (j 1).isLt
  refine Fin.forall_fin_two.trans ⟨fun h => h.1, fun h => ⟨h, Nat.zero_le _, h1⟩⟩

/-- A chunk of the fetched row numbers is 128 of them in a row. -/
theorem mem_sSet (k : Fin 16) (j : S2048.Idx) :
    j ∈ sSet k ↔ 128 * k.val ≤ (j 0).val ∧ (j 0).val < 128 * k.val + 128 := by
  change j ∈ ((View.whole (cc0_scratch0 : Ref sig .scVector)).slice (sRect k)).set ↔ _
  rw [View.set_slice_whole, Rect.mem_set_unit]
  exact Fin.forall_fin_one

/-! ## What is left in the result -/

/-- The row of the table that a row number names (an out-of-range number is never met). -/
def rowAt (w : BitVec 32) : Fin 8192 := ⟨w.toNat % 8192, Nat.mod_lt _ (by decide)⟩

/-- The table's element at a row and a column. -/
def cellAt (r : Fin 8192) (c : Fin 128) : S8192x128.Idx := fun | 0 => r | 1 => c

/-- A place of the table is known by its row and its column. -/
theorem eq_cellAt (y : S8192x128.Idx) (r : Fin 8192) (c : Fin 128) (h0 : (y 0).val = r.val) (h1 : (y 1).val = c.val) : y = cellAt r c :=
  funext fun a => match a with
    | 0 => Fin.ext h0
    | 1 => Fin.ext h1

/-- The place of a result row's number in `idx`. -/
def rowIx (j : S65536x128.Idx) : S65536.Idx := fun | 0 => j 0

/-- The gathered rows: row `r` is the table's row numbered by `idx r`. -/
def rowsOf (fi : S65536.Idx → Elt F .i32) (fx : S8192x128.Idx → Elt F .f32) : S65536x128.Idx → Elt F .f32 :=
  fun j => fx (cellAt (rowAt (fi (rowIx j))) (j 1))

/-! ## The task's own cells and buffers -/

section Tile

variable (d : Dev nD) (L : grid0.Coords)

/-- One of a task's transfer semaphores. -/
abbrev cell (d : Dev nD) (L : grid0.Coords) (s : DmaSem sig) : GSem nD τ sig := (tl d L, .dma s)

/-- Different transfer semaphores are different cells. -/
theorem cell_inj : Function.Injective (cell d L) := fun a b h => by
  have h2 : (SemLoc.dma a : SemLoc sig) = SemLoc.dma b := congrArg Prod.snd h
  exact SemLoc.dma.inj h2

/-- The nine transfer semaphores a task uses are among its own: they are them, at zero, and the rest. -/
theorem ownSems0_V :
    (ownSems0 (tl d L) : sProp 𝕄)
      = iprop((semVal (cell d L cc0_scratch5.sem) 0 ∗ semVal (cell d L cc0_scratch6.sem) 0 ∗ semVal (cell d L cc0_scratch7.sem) 0
          ∗ semVal (cell d L cc0_scratch8.sem) 0 ∗ semVal (cell d L cc0_scratch9.sem) 0 ∗ semVal (cell d L cc0_scratch10.sem) 0
          ∗ semVal (cell d L cc0_scratch11.sem) 0 ∗ semVal (cell d L cc0_scratch12.sem) 0 ∗ semVal (cell d L cc0_scoped0.sem) 0)
          ∗ bigSep (ownCells (tl d L) \ Finset.univ.image (cell d L)) fun g => semVal g 0) := by
  unfold SparseCore.Cfg.ownSems0
  rw [SparseCore.bigSep_sdiff_split' (t := Finset.univ.image (cell d L)) (fun g hg => by
      obtain ⟨s, -, rfl⟩ := Finset.mem_image.mp hg
      exact mem_ownCells.mpr ⟨rfl, (show ∀ s : DmaSem sig, (SemLoc.dma s : SemLoc sig).isScoped .scVector = true by decide) s⟩),
    BI.bigSep_image_of_injOn (cell_inj d L).injOn,
    BI.bigSep_univ_eq_bigSepL [cc0_scratch5.sem, cc0_scratch6.sem, cc0_scratch7.sem, cc0_scratch8.sem, cc0_scratch9.sem, cc0_scratch10.sem,
      cc0_scratch11.sem, cc0_scratch12.sem, cc0_scoped0.sem] (by decide) (by decide)]
  rfl

/-- The references of the five scratch buffers. -/
abbrev bufs : List (Ref sig .scVector) := [cc0_scratch0, cc0_scratch1, cc0_scratch2, cc0_scratch3, cc0_scratch4]
/-- A scratch buffer, as one of the device's. -/
abbrev atTile (L : grid0.Coords) (b : Ref sig .scVector) : DevRef τ sig := (Proc.scVector (cr L) (sr L)).devRef b

/-- The five scratch buffers are among the subcore's own: they are them, at some contents, and the rest. -/
theorem ownBufs_V :
    (ownBufs (tl d L) : sProp 𝕄)
      = iprop(((∃ f, (sV).view.loc (tl d L) ↦{fullShare} f) ∗ (∃ f, (aV).view.loc (tl d L) ↦{fullShare} f)
          ∗ (∃ f, (bV).view.loc (tl d L) ↦{fullShare} f) ∗ (∃ f, (cV).view.loc (tl d L) ↦{fullShare} f)
          ∗ (∃ f, (eV).view.loc (tl d L) ↦{fullShare} f))
          ∗ bigSep (ownRefs (τ := τ) (.scVector (cr L) (sr L)) \ bufs.toFinset.image (atTile L))
              fun b => iprop(∃ f, ((d, b) : Loc nD τ sig) ↦{fullShare} f)) := by
  unfold SparseCore.Cfg.ownBufs
  refine (SparseCore.bigSep_sdiff_split' (t := bufs.toFinset.image (atTile L)) (fun b hb => ?_)).trans ?_
  · obtain ⟨r, hr, rfl⟩ := Finset.mem_image.mp hb
    refine SparseCore.Cfg.mem_ownRefs_of_owner ?_
    simp only [bufs, List.mem_toFinset, List.mem_cons, List.not_mem_nil, or_false] at hr
    rcases hr with rfl | rfl | rfl | rfl | rfl <;> rfl
  rw [BI.bigSep_image_of_injOn (f := atTile L) (fun _ _ _ _ h => Proc.devRef_injective _ h), BI.bigSep_eq_bigSepL bufs (by decide)]
  rfl

/-! ## The operands as the task spells them -/

/-- A chunk of the result, its first row written as a word offset from the task's own. -/
abbrev oAt (L : grid0.Coords) (w : BitVec 32) (h : ∀ a, (k0_off2 L w) a + S128x128.size a ≤ S65536x128.size a) :
    Memref sig .scVector .hbm S128x128 .f32 := (oV).slice (Rect.unit (s := S65536x128) (k0_off2 L w) S128x128.size h) (fun _ => rfl)
/-- Owning a chunk of the result, its first row written as a word offset. -/
abbrev oPts (d : Dev nD) (L : grid0.Coords) (w : BitVec 32) (h : ∀ a, (k0_off2 L w) a + S128x128.size a ≤ S65536x128.size a)
    (f : Buf (Elt F) (oLoc d)) : sProp 𝕄 :=
  (oAt L w h).view.loc (tl d L) ↦[(oAt L w h).view.set]{fullShare} f

/-- The task's rows of the result, chunk by chunk. -/
abbrev oChunks (f : Buf (Elt F) (oLoc d)) : sProp 𝕄 :=
  bigSep Finset.univ fun k : Fin 16 => oLoc d ↦[(oMem L k).view.set]{fullShare} f

/-- Owning a task's rows of the result is owning its sixteen chunks one by one. -/
theorem oChunks_eq (f : Buf (Elt F) (oLoc d)) :
    oChunks d L f = iprop(oPts d L 0#32 (k0_off2_inb L 0) f ∗ oPts d L 128#32 (k0_off2_inb L 1) f ∗ oPts d L 256#32 (k0_off2_inb L 2) f
      ∗ oPts d L 384#32 (k0_off2_inb L 3) f ∗ oPts d L 512#32 (k0_off2_inb L 4) f ∗ oPts d L 640#32 (k0_off2_inb L 5) f
      ∗ oPts d L 768#32 (k0_off2_inb L 6) f ∗ oPts d L 896#32 (k0_off2_inb L 7) f ∗ oPts d L 1024#32 (k0_off2_inb L 8) f
      ∗ oPts d L 1152#32 (k0_off2_inb L 9) f ∗ oPts d L 1280#32 (k0_off2_inb L 10) f ∗ oPts d L 1408#32 (k0_off2_inb L 11) f
      ∗ oPts d L 1536#32 (k0_off2_inb L 12) f ∗ oPts d L 1664#32 (k0_off2_inb L 13) f ∗ oPts d L 1792#32 (k0_off2_inb L 14) f
      ∗ oPts d L 1920#32 (k0_off2_inb L 15) f) := by
  rw [oChunks, BI.bigSep_univ_eq_bigSepL [0, 1, 2, 3, 4, 5, 6, 7, 8, 9, 10, 11, 12, 13, 14, 15] (by decide) (by decide)]
  rfl

/-- The whole table, as the task's streams address it. -/
abbrev xAll : Memref sig .scVector .hbm S8192x128 .f32 :=
  (xV).slice (Rect.unit (s := S8192x128) ![0, 0] S8192x128.size inb_S8192x128_S8192x128_0_0) (fun _ => rfl)
/-- The table as the streams address it is all of the table. -/
theorem set_xAll : (xAll).view.set = Finset.univ := by
  refine Finset.eq_univ_iff_forall.mpr fun j => ?_
  change j ∈ ((View.whole (main_v0_scv : Ref sig .scVector)).slice (Rect.unit (s := S8192x128) ![0, 0] S8192x128.size inb_S8192x128_S8192x128_0_0)).set
  rw [View.set_slice_whole, Rect.mem_set_unit]
  exact Fin.forall_fin_two.mpr ⟨⟨Nat.zero_le _, (Nat.zero_add _).symm ▸ (j 0).isLt⟩, ⟨Nat.zero_le _, (Nat.zero_add _).symm ▸ (j 1).isLt⟩⟩

/-- A task's share of the table, dealt to its four streams' semaphores. -/
abbrev xPts (d : Dev nD) (L : grid0.Coords) (q : PosShare TreeShare) (f : Buf (Elt F) (xLoc d)) : sProp 𝕄 :=
  (xAll).view.loc (tl d L) ↦[(xAll).view.set]{q} f
/-- A task's share of the table is one share for each of four streams, and a rest. -/
theorem xToks_eq (q : PosShare TreeShare) (f : Buf (Elt F) (xLoc d)) :
    (xLoc d ↦{q} f : sProp 𝕄) = iprop((xLoc d ↦{Transfers.shareDrop q 4} f) ∗ xPts d L (Transfers.shareTok q 4 0) f
      ∗ xPts d L (Transfers.shareTok q 4 1) f ∗ xPts d L (Transfers.shareTok q 4 2) f ∗ xPts d L (Transfers.shareTok q 4 3) f) := by
  have h := Transfers.pointsTo_toks (Name := ℕ) (U := UU) (Lvl := ℕ) (Ix := HIx 1) (ℓ := xLoc d) (S := Finset.univ) (f := f) q 4
  rw [BI.bigSep_univ_eq_bigSepL [0, 1, 2, 3] (by decide) (by decide)] at h
  rw [show (xLoc d ↦{q} f : sProp 𝕄) = _ from BI.Entails.antisymm h.1 h.2]
  unfold xPts; rw [set_xAll]
  rfl

/-- A chunk of the fetched row numbers, its first place written out. -/
abbrev sAt (n : ℕ) (h : ∀ a, (![n] : Fin 1 → Nat) a + S128.size a ≤ S2048.size a) : Memref sig .scVector .vmem S128 .i32 :=
  (sV).slice (Rect.unit (s := S2048) ![n] S128.size h) (fun _ => rfl)
/-- Owning a chunk of the fetched row numbers. -/
abbrev sPts (d : Dev nD) (L : grid0.Coords) (n : ℕ) (h : ∀ a, (![n] : Fin 1 → Nat) a + S128.size a ≤ S2048.size a)
    (f : Buf (Elt F) ((tl d L).loc cc0_scratch0)) : sProp 𝕄 :=
  (sAt n h).view.loc (tl d L) ↦[(sAt n h).view.set]{fullShare} f

/-- The chunks of the fetched row numbers do not overlap. -/
theorem sChunks_disjoint : ∀ i ∈ (Finset.univ : Finset (Fin 16)), ∀ j ∈ (Finset.univ : Finset (Fin 16)), i ≠ j →
    Disjoint (sSet i) (sSet j) := fun i _ j _ h => Finset.disjoint_left.mpr fun x hi hj => by
  have hi := (mem_sSet i x).mp hi
  have hj := (mem_sSet j x).mp hj
  exact h (Fin.ext (by omega))
/-- The chunks of the fetched row numbers are all of them. -/
theorem sChunks_cover : (Finset.univ : Finset (Fin 16)).biUnion sSet = Finset.univ :=
  Finset.eq_univ_iff_forall.mpr fun x => by
    have hx : (x 0).val < 2048 := (x 0).isLt
    exact Finset.mem_biUnion.mpr ⟨⟨(x 0).val / 128, by omega⟩, Finset.mem_univ _, (mem_sSet ⟨(x 0).val / 128, by omega⟩ x).mpr (by constructor <;> simp only <;> omega)⟩

/-- The fetched row numbers, held chunk by chunk. -/
theorem sChunks_eq (f : Buf (Elt F) ((tl d L).loc cc0_scratch0)) :
    ((sV).view.loc (tl d L) ↦{fullShare} f : sProp 𝕄)
      = iprop(sPts d L 0 (sMem_inb 0) f ∗ sPts d L 128 (sMem_inb 1) f ∗ sPts d L 256 (sMem_inb 2) f ∗ sPts d L 384 (sMem_inb 3) f
        ∗ sPts d L 512 (sMem_inb 4) f ∗ sPts d L 640 (sMem_inb 5) f ∗ sPts d L 768 (sMem_inb 6) f ∗ sPts d L 896 (sMem_inb 7) f
        ∗ sPts d L 1024 (sMem_inb 8) f ∗ sPts d L 1152 (sMem_inb 9) f ∗ sPts d L 1280 (sMem_inb 10) f ∗ sPts d L 1408 (sMem_inb 11) f
        ∗ sPts d L 1536 (sMem_inb 12) f ∗ sPts d L 1664 (sMem_inb 13) f ∗ sPts d L 1792 (sMem_inb 14) f ∗ sPts d L 1920 (sMem_inb 15) f) := by
  have h := pointsTo_biUnion (Name := ℕ) (U := UU) (Lvl := ℕ) (Ix := HIx 1) (q := fullShare) (f := f) Finset.univ
    (ℓ := (tl d L).loc cc0_scratch0) sSet sChunks_disjoint
  rw [sChunks_cover, BI.bigSep_univ_eq_bigSepL [0, 1, 2, 3, 4, 5, 6, 7, 8, 9, 10, 11, 12, 13, 14, 15] (by decide) (by decide)] at h
  exact h

/-- The row numbers a task fetches: its own 2048 of `idx`. -/
def listOf (L : grid0.Coords) (fi : Buf (Elt F) (iLoc d)) : Buf (Elt F) ((tl d L).loc cc0_scratch0) :=
  (iMem L).view.read (Elt F) fi

/-- A fetched row number is the one at the same place of the task's run. -/
theorem listOf_apply (fi : Buf (Elt F) (iLoc d)) (j : S2048.Idx) :
    listOf d L fi j = fi (fun | 0 => ⟨base L + (j 0).val, (by have := base_le L; have h : (j 0).val < 2048 := (j 0).isLt; show _ < 65536; omega)⟩) := by
  unfold listOf
  refine (View.read_apply _ _).trans ((cast_eq _ _).trans (congrArg fi (funext fun a => ?_)))
  match a with
  | 0 =>
    refine Fin.ext ?_
    change ((iRect L).emb j 0).val = base L + (j 0).val
    rw [Rect.emb_apply]
    change (k0_off1 L) 0 + 1 * (j 0).val = _
    rw [k0_off1_eq, Nat.one_mul]; rfl

/-! ## What one stream and one copy leave -/

/-- The rows a stream delivers for the chunk of the list from place `n` on. -/
def stream (fx : Buf (Elt F) (xLoc d)) (fl : Buf (Elt F) ((tl d L).loc cc0_scratch0))
    (n : ℕ) (h : ∀ a, (![n] : Fin 1 → Nat) a + S128.size a ≤ S2048.size a) (hin : ∀ x, ((sAt n h).view.read (Elt F) fl x).toNat < 8192) :
    S128x128.Idx → Elt F .f32 :=
  SparseCore.gatherPayload gathers_S8192x128_S128x128 ((xAll).view.read (Elt F) fx)
    (SparseCore.rows (si := S128) (o := S128x128.size (gathers_S8192x128_S128x128).axis') (z := S8192x128.size (gathers_S8192x128_S128x128).axis) ((sAt n h).view.read (Elt F) fl) rfl hin)

/-- A stream delivers the rows of the table that its chunk of the list names. -/
theorem stream_apply (fi : Buf (Elt F) (iLoc d)) (fx : Buf (Elt F) (xLoc d)) (n : ℕ)
    (h : ∀ a, (![n] : Fin 1 → Nat) a + S128.size a ≤ S2048.size a)
    (hin : ∀ x, ((sAt n h).view.read (Elt F) (listOf d L fi) x).toNat < 8192) (x : S128x128.Idx) (j : S65536x128.Idx)
    (h0 : (j 0).val = base L + n + (x 0).val) (h1 : (j 1).val = (x 1).val) :
    stream d L fx (listOf d L fi) n h hin x = rowsOf fi fx j := by
  unfold stream SparseCore.gatherPayload rowsOf
  refine (View.read_apply _ _).trans ((cast_eq _ _).trans (congrArg fx (eq_cellAt _ _ _ ?_ ?_)))
  · refine (Nat.zero_add _).trans ((Nat.one_mul _).trans ?_)
    refine (congrArg Fin.val (Shape.Gathers.idx_axis gathers_S8192x128_S128x128 _ x)).trans ?_
    have hy : ∀ k : Fin S128.numel, ((S128.rowMajor.symm k) 0).val = k.val := fun k => by
      have e := Shape.rowMajor_val_one (d := S128.size) (S128.rowMajor.symm k)
      rw [← e]; exact congrArg Fin.val (S128.rowMajor.apply_symm_apply k)
    have hr : ∀ y, (sAt n h).view.read (Elt F) (listOf d L fi) y = fi (rowIx j) ∨ (y 0).val ≠ (x 0).val := fun y => by
      by_cases e : (y 0).val = (x 0).val
      · refine .inl ((View.read_apply _ _).trans ((cast_eq _ _).trans ((listOf_apply d L fi _).trans (congrArg fi (funext fun a => ?_)))))
        match a with
        | 0 => refine Fin.ext ?_; show base L + (n + 1 * (y 0).val) = (j 0).val; omega
      · exact .inr e
    refine ((congrArg BitVec.toNat ((hr _).resolve_right (fun e => e (hy _)))).trans ?_)
    have hlt := hin (S128.rowMajor.symm ((x 0).cast rfl))
    have hlt := (congrArg (fun w : BitVec 32 => w.toNat < 8192) ((hr _).resolve_right (fun e => e (hy _)))).mp hlt
    exact (Nat.mod_eq_of_lt hlt).symm
  · refine (Nat.zero_add _).trans ((Nat.one_mul _).trans ?_)
    exact (Shape.Gathers.idx_of_ne gathers_S8192x128_S128x128 _ x 1 (by decide)).trans h1.symm

/-- A whole buffer read after writes, the last of them to all of it, reads that last write. -/
theorem read_last {κ : Kind} {sp : Space} {s : Shape} {e : EltTy} (v : View sig κ sp s e) (f : v.ty.Contents (Elt F))
    (w : s.Idx → Elt F e) (T : List (View.Piece (Elt F) s e)) :
    v.read (Elt F) (v.writes (Elt F) f (⟨Rect.whole s, w⟩ :: T)) = w :=
  funext fun x => (congrArg _ (Rect.emb_whole_apply s x).symm).trans (View.read_writes_cons_emb v f (Rect.whole s) w T x)

/-- A chunk of the result after the copy of the streamed rows into it holds the gathered rows. -/
theorem chunk_done (fi : Buf (Elt F) (iLoc d)) (fx : Buf (Elt F) (xLoc d)) (k : Fin 16) (fo : Buf (Elt F) (oLoc d))
    (hin : ∀ x, ((sAt (128 * k.val) (sMem_inb k)).view.read (Elt F) (listOf d L fi) x).toNat < 8192)
    (v : View sig .scVector .vmem S128x128 .f32) (f : v.ty.Contents (Elt F)) (T : List (View.Piece (Elt F) S128x128 .f32)) :
    (oLoc d ↦[oSet L k]{fullShare} ((oMem L k).view.writes (Elt F) fo [⟨Rect.whole S128x128,
        v.read (Elt F) (v.writes (Elt F) f (⟨Rect.whole S128x128, stream d L fx (listOf d L fi) (128 * k.val) (sMem_inb k) hin⟩ :: T))⟩]) : sProp 𝕄)
      = oLoc d ↦[oSet L k]{fullShare} rowsOf fi fx := by
  rw [read_last]
  refine pointsTo_congr fun j hj => ?_
  obtain ⟨x, -, rfl⟩ := Finset.mem_map.mp hj
  refine (cast_eq _ _).symm.trans ((View.read_apply _ _).symm.trans ((congrFun (read_last (F := F) (oMem L k).view fo _ []) x).trans
    (stream_apply d L fi fx _ _ hin x _ ?_ ?_)))
  · change (k0_off2 L (BitVec.ofNat 32 (128 * k.val))) 0 + 1 * (x 0).val = _
    rw [k0_off2_eq, Nat.one_mul]; rfl
  · change (k0_off2 L (BitVec.ofNat 32 (128 * k.val))) 1 + 1 * (x 1).val = _
    rw [k0_off2_eq, Nat.one_mul]; exact Nat.zero_add _

end Tile

end Cert.Proof.Rows

end
-- ==== Proof.GatherTile.lean ====
/-
  The row-gathering call: what one task does, run from end to end.
-/
module

public import proofs.«01_k».proof.Proof.GatherSet
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Gather
public import proofs.«01_k».proof.Proof.Gen.Gather.Skeleton

@[expose] public section

set_option maxRecDepth 16384

noncomputable section

namespace Cert.Proof.Rows

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole main_arg1_scv : Memref sig Kind.scVector Space.hbm S65536 EltTy.i32)
local notation "xV" => (Memref.whole main_v0_scv : Memref sig Kind.scVector Space.hbm S8192x128 EltTy.f32)
local notation "oV" => (Memref.whole main_v1_scv : Memref sig Kind.scVector Space.hbm S65536x128 EltTy.f32)
local notation "sV" => (Memref.whole cc0_scratch0 : Memref sig Kind.scVector Space.vmem S2048 EltTy.i32)
local notation "aV" => (Memref.whole cc0_scratch1 : Memref sig Kind.scVector Space.vmem S128x128 EltTy.f32)
local notation "bV" => (Memref.whole cc0_scratch2 : Memref sig Kind.scVector Space.vmem S128x128 EltTy.f32)
local notation "cV" => (Memref.whole cc0_scratch3 : Memref sig Kind.scVector Space.vmem S128x128 EltTy.f32)
local notation "eV" => (Memref.whole cc0_scratch4 : Memref sig Kind.scVector Space.vmem S128x128 EltTy.f32)

section Tile

variable (d : Dev nD) (L : grid0.Coords)

variable [FloatOps F]

set_option maxHeartbeats 4000000 in
/-- A task run from its row numbers, a share of the table and its rows of the result ends with each of its rows being the table's row of that number, with its semaphores back at zero. -/
theorem tile_body (hF : (K (F := F)).Facts) (q : PosShare TreeShare) (fi : Buf (Elt F) (iLoc d)) (fx : Buf (Elt F) (xLoc d))
    (hpre : ∀ j, (fi j).toNat < 8192) (O : CellTallies nD τ sig (HIx 1)) (W : Waits sig (HIx 1)) (hO : ∀ g, O g none = 0) :
    iprop(levAts (K (F := F)).L (K (F := F)).lev ∗ emp
        ∗ ((iLoc d ↦[(iMem L).view.set]{fullShare} fi) ∗ (xLoc d ↦{q} fx) ∗ ∃ f, oChunks d L f)
        ∗ scopedBufs (tl d L) ∗ scopedSems0 (tl d L) ∗ owes (tl d L) O W)
      ⊢ wp frame (wpE (defs₀ (F := F)) 𝒱₀ (tl d L) none) Set.univ
          (cc0__gather_body L xV (Memref.isWhole_whole _) iV (Memref.isWhole_whole _) oV (Memref.isWhole_whole _)
            sV (Memref.isWhole_whole _) aV (Memref.isWhole_whole _) bV (Memref.isWhole_whole _) cV (Memref.isWhole_whole _)
            eV (Memref.isWhole_whole _) cc0_scratch5 cc0_scratch6 cc0_scratch7 cc0_scratch8 cc0_scratch9 cc0_scratch10 cc0_scratch11
            cc0_scratch12 cc0_scoped0)
          fun _ => iprop(((iLoc d ↦[(iMem L).view.set]{fullShare} fi) ∗ (xLoc d ↦{q} fx) ∗ oChunks d L (rowsOf fi fx))
            ∗ scopedBufs (tl d L) ∗ scopedSems0 (tl d L)
            ∗ ∃ W', ⌜∀ p ∈ W', p ∈ W ∨ p.2 = none⌝ ∗ owes (tl d L) O W') := by
  simp only [cc0__gather_body_eq_skeleton]; unfold cc0__gather_body_skel
  rw [(K (F := F)).scopedBufs_V hF d (cr L) (sr L), SparseCore.Cfg.scopedSems0_V (Val := Elt F) d (cr L) (sr L), ownSems0_V, ownBufs_V]
  iintro ⟨#Hlv, -, ⟨Hi, Hx, ⟨%fo, Ho⟩⟩, ⟨⟨⟨%fs, Hs⟩, ⟨%fa, Ha⟩, ⟨%fb, Hb⟩, ⟨%fc, Hc⟩, ⟨%fe, He⟩⟩, Hbufs⟩,
    ⟨⟨Hg0, Hg1, Hg2, Hg3, Ht0, Ht1, Ht2, Ht3, Hf⟩, Hsems⟩, HO⟩
  ihave Hmw := (show levAts (K (F := F)).L (K (F := F)).lev ⊢ Transfers.MayWaits (tl d L) (default : HIx 1) O from
    (K (F := F)).mayWaits_none (thr := tl d L) hO) $$ Hlv
  ihave Hi' := (show (iLoc d ↦[(iMem L).view.set]{fullShare} fi : sProp 𝕄) ⊢ (iMem L).view.loc (tl d L) ↦[(iMem L).view.set]{fullShare} fi from
    Entails.of_eq rfl) $$ Hi
  ihave Hxt := (Entails.of_eq (xToks_eq (F := F) d L q fx)) $$ Hx
  icases Hxt with ⟨Hxr, Hx0, Hx1, Hx2, Hx3⟩
  ihave Ho' := (Entails.of_eq (oChunks_eq (F := F) d L fo)) $$ Ho
  icases Ho' with ⟨Ho0, Ho1, Ho2, Ho3, Ho4, Ho5, Ho6, Ho7, Ho8, Ho9, Ho10, Ho11, Ho12, Ho13, Ho14, Ho15⟩
  sl_exec
  obtain ⟨fl, hfl⟩ : ∃ fl, fl = listOf d L fi := ⟨_, rfl⟩
  have hin : ∀ (n : ℕ) (h : ∀ a, (![n] : Fin 1 → Nat) a + S128.size a ≤ S2048.size a) (x : S128.Idx),
      ((sAt n h).view.read (Elt F) fl x).toNat < 8192 := fun n h x => by
    rw [show (sAt n h).view.read (Elt F) fl x = fl ((sAt n h).view.emb x) from (View.read_apply _ _).trans (cast_eq _ _), hfl, listOf_apply]
    exact hpre _
  ihave Hs' := (Entails.of_eq (show ((sV).view.loc (tl d L) ↦{fullShare} View.write (Elt F) (sV).view fs (tile_body.sl.dma0 d L fi) Finset.univ : sProp 𝕄)
      = (sV).view.loc (tl d L) ↦{fullShare} fl by rw [View.write_whole_univ, hfl]; rfl)) $$ Hs
  ihave Hs := (Entails.of_eq (sChunks_eq (F := F) d L fl)) $$ Hs'
  icases Hs with ⟨Hs0, Hs1, Hs2, Hs3, Hs4, Hs5, Hs6, Hs7, Hs8, Hs9, Hs10, Hs11, Hs12, Hs13, Hs14, Hs15⟩
  sl_exec
  sl_step
  subst hfl
  isplitl [Hi' Hxr Hx0 Hx1 Hx2 Hx3 Ho0 Ho1 Ho2 Ho3 Ho4 Ho5 Ho6 Ho7 Ho8 Ho9 Ho10 Ho11 Ho12 Ho13 Ho14 Ho15]
  · isplitl [Hi']; · iexact Hi'
    isplitl [Hxr Hx0 Hx1 Hx2 Hx3]
    · iapply (Entails.of_eq (xToks_eq (F := F) d L q fx).symm)
      isplitl [Hxr]; · iexact Hxr
      isplitl [Hx0]; · iexact Hx0
      isplitl [Hx1]; · iexact Hx1
      isplitl [Hx2] <;> iassumption
    iapply (Entails.of_eq (oChunks_eq (F := F) d L (rowsOf fi fx)).symm)
    have hd := fun (k : Fin 16) {v : View sig .scVector .vmem S128x128 .f32} {f : v.ty.Contents (Elt F)}
      {T : List (View.Piece (Elt F) S128x128 .f32)} => Entails.of_eq (chunk_done (F := F) d L fi fx k fo (hin _ _) v f T)
    isplitl [Ho0]; · iapply (hd 0); iexact Ho0
    isplitl [Ho1]; · iapply (hd 1); iexact Ho1
    isplitl [Ho2]; · iapply (hd 2); iexact Ho2
    isplitl [Ho3]; · iapply (hd 3); iexact Ho3
    isplitl [Ho4]; · iapply (hd 4); iexact Ho4
    isplitl [Ho5]; · iapply (hd 5); iexact Ho5
    isplitl [Ho6]; · iapply (hd 6); iexact Ho6
    isplitl [Ho7]; · iapply (hd 7); iexact Ho7
    isplitl [Ho8]; · iapply (hd 8); iexact Ho8
    isplitl [Ho9]; · iapply (hd 9); iexact Ho9
    isplitl [Ho10]; · iapply (hd 10); iexact Ho10
    isplitl [Ho11]; · iapply (hd 11); iexact Ho11
    isplitl [Ho12]; · iapply (hd 12); iexact Ho12
    isplitl [Ho13]; · iapply (hd 13); iexact Ho13
    isplitl [Ho14]; · iapply (hd 14); iexact Ho14
    iapply (hd 15); iexact Ho15
  isplitl [Hs0 Hs1 Hs2 Hs3 Hs4 Hs5 Hs6 Hs7 Hs8 Hs9 Hs10 Hs11 Hs12 Hs13 Hs14 Hs15 Ha Hb Hc He Hbufs]
  · isplitr [Hbufs]; swap; · iexact Hbufs
    isplitl [Hs0 Hs1 Hs2 Hs3 Hs4 Hs5 Hs6 Hs7 Hs8 Hs9 Hs10 Hs11 Hs12 Hs13 Hs14 Hs15]
    · iexists _; iapply (Entails.of_eq (sChunks_eq (F := F) d L (listOf d L fi)).symm)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      iexact Hs15
    isplitl [Ha]; · iexists _; iexact Ha
    isplitl [Hb]; · iexists _; iexact Hb
    isplitl [Hc]; · iexists _; iexact Hc
    iexists _; iexact He
  isplitr [HO]
  · isplitr [Hsems]; swap; · iexact Hsems
    isplitl [Hg0]; · iexact Hg0
    isplitl [Hg1]; · iexact Hg1
    isplitl [Hg2]; · iexact Hg2
    isplitl [Hg3]; · iexact Hg3
    isplitl [Ht0]; · iexact Ht0
    isplitl [Ht1]; · iexact Ht1
    isplitl [Ht2]; · iexact Ht2
    isplitl [Ht3]; · iexact Ht3
    iexact Hf
  iexists _; isplitr; swap; · iexact HO
  ipureintro; intro p hp
  repeat (rcases Finset.mem_insert.mp hp with hp | hp; · exact .inr (hp ▸ rfl))
  exact .inl hp

end Tile

end Cert.Proof.Rows

end
-- ==== Proof.GatherRun.lean ====
/-
  The row-gathering call, whole. The thirty-two tasks' runs of row numbers and their rows of the result are the
  arrays, each split by task; the padded table is shared out between the tasks. `main` pads the table, runs the call
  and takes the first 64 columns. The run's theorem states the result: row `r` is the codebook's row numbered by `idx r`.
-/
module

public import proofs.«01_k».proof.Proof.GatherTile
public import Idealize.ShloMosaic.Lib.KernelVsHost

@[expose] public section

set_option maxRecDepth 16384

noncomputable section

namespace Cert.Proof.Rows

open Cert.Gather Cert.Gather.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays, split by task -/

/-- The grid point of core `c`, subcore `i`. -/
abbrev coordsV (c : Fin (grid0.bound 0)) (i : Fin (grid0.bound 1)) : grid0.Coords := fun
  | 0 => c
  | 1 => i
  | ⟨_ + 2, h⟩ => absurd h (Nat.not_lt.2 (Nat.le_add_left _ _))
/-- The grid point of a pair of numbers. -/
abbrev at2 (t : Fin 2 × Fin 16) : grid0.Coords := coordsV t.1 t.2

/-- The first row of the task on a given core and subcore. -/
theorem base_at2 (t : Fin 2 × Fin 16) : base (at2 t) = 4096 * t.2.val + 2048 * t.1.val := rfl

/-- A task's share of the padded table. -/
def xShare (t : Fin 2 × Fin 16) : PosShare TreeShare := pieceOf fullShare 32 (by decide) (finProdFinEquiv t)

/-- Different tasks have different row numbers. -/
theorem i_disjoint : ∀ t ∈ (Finset.univ : Finset (Fin 2 × Fin 16)), ∀ u ∈ (Finset.univ : Finset (Fin 2 × Fin 16)), t ≠ u →
    Disjoint (iSet (at2 t)) (iSet (at2 u)) := fun t _ u _ h => Finset.disjoint_left.mpr fun x hi hj => by
  have hi := (mem_iSet (at2 t) x).mp hi
  have hj := (mem_iSet (at2 u) x).mp hj
  rw [base_at2] at hi hj
  have h1 := t.1.isLt; have h2 := u.1.isLt
  exact h (Prod.ext (Fin.ext (by omega)) (Fin.ext (by omega)))

/-- The tasks' row numbers are all of them. -/
theorem i_cover : (Finset.univ : Finset (Fin 2 × Fin 16)).biUnion (fun t => iSet (at2 t)) = Finset.univ :=
  Finset.eq_univ_iff_forall.mpr fun x => by
    have hx : (x 0).val < 65536 := (x 0).isLt
    refine Finset.mem_biUnion.mpr ⟨(⟨(x 0).val / 2048 % 2, by omega⟩, ⟨(x 0).val / 4096, by omega⟩), Finset.mem_univ _, (mem_iSet _ x).mpr ?_⟩
    rw [base_at2]; simp only; omega

/-- Different chunks of different tasks are different rows of the result. -/
theorem o_disjoint : ∀ t ∈ (Finset.univ : Finset ((Fin 2 × Fin 16) × Fin 16)), ∀ u ∈ (Finset.univ : Finset ((Fin 2 × Fin 16) × Fin 16)), t ≠ u →
    Disjoint (oSet (at2 t.1) t.2) (oSet (at2 u.1) u.2) := fun t _ u _ h => Finset.disjoint_left.mpr fun x hi hj => by
  have hi := (mem_oSet (at2 t.1) t.2 x).mp hi
  have hj := (mem_oSet (at2 u.1) u.2 x).mp hj
  rw [base_at2] at hi hj
  have h1 := t.1.1.isLt; have h2 := u.1.1.isLt; have h3 := t.2.isLt; have h4 := u.2.isLt
  exact h (Prod.ext (Prod.ext (Fin.ext (by omega)) (Fin.ext (by omega))) (Fin.ext (by omega)))

/-- The tasks' chunks are all rows of the result. -/
theorem o_cover : (Finset.univ : Finset ((Fin 2 × Fin 16) × Fin 16)).biUnion (fun t => oSet (at2 t.1) t.2) = Finset.univ :=
  Finset.eq_univ_iff_forall.mpr fun x => by
    have hx : (x 0).val < 65536 := (x 0).isLt
    refine Finset.mem_biUnion.mpr ⟨((⟨(x 0).val / 2048 % 2, by omega⟩, ⟨(x 0).val / 4096, by omega⟩), ⟨(x 0).val / 128 % 16, by omega⟩),
      Finset.mem_univ _, (mem_oSet _ _ x).mpr ?_⟩
    rw [base_at2]; simp only; omega

/-- The row numbers, task by task. -/
theorem i_split (d : Dev nD) (f : Buf (Elt F) (iLoc d)) :
    (iLoc d ↦{fullShare} f : sProp 𝕄) = bigSep Finset.univ fun t : Fin 2 × Fin 16 => iLoc d ↦[iSet (at2 t)]{fullShare} f := by
  have h := pointsTo_biUnion (Name := ℕ) (U := UU) (Lvl := ℕ) (Ix := HIx 1) (q := fullShare) (f := f) Finset.univ
    (ℓ := iLoc d) (fun t => iSet (at2 t)) i_disjoint
  rw [i_cover] at h; exact h

/-- The padded table, a share of it for each task. -/
theorem x_split (d : Dev nD) (f : Buf (Elt F) (xLoc d)) :
    (xLoc d ↦{fullShare} f : sProp 𝕄) = bigSep Finset.univ fun t : Fin 2 × Fin 16 => xLoc d ↦{xShare t} f := by
  rw [pointsTo_piecesOf Finset.univ f (o := 32) (by decide) fullShare]
  exact BI.bigSep_univ_equiv (finProdFinEquiv (m := 2) (n := 16)) _

/-- The result, task by task and chunk by chunk. -/
theorem o_split (d : Dev nD) (f : Buf (Elt F) (oLoc d)) :
    (oLoc d ↦{fullShare} f : sProp 𝕄) = bigSep Finset.univ fun t : Fin 2 × Fin 16 => oChunks d (at2 t) f := by
  have h := pointsTo_biUnion (Name := ℕ) (U := UU) (Lvl := ℕ) (Ix := HIx 1) (q := fullShare) (f := f) Finset.univ
    (ℓ := oLoc d) (fun t : (Fin 2 × Fin 16) × Fin 16 => oSet (at2 t.1) t.2) o_disjoint
  rw [o_cover] at h
  exact h.trans (BI.bigSep_univ_prod _)

/-! ## What each task is handed and hands back -/

section Launch

variable (fi : ∀ d, Buf (Elt F) (iLoc d)) (fx : ∀ d, Buf (Elt F) (xLoc d))

/-- What a task starts from, and what it ends at. -/
abbrev goPts (d : Dev nD) (t : Fin 2 × Fin 16) : sProp 𝕄 :=
  iprop((iLoc d ↦[iSet (at2 t)]{fullShare} fi d) ∗ (xLoc d ↦{xShare t} fx d) ∗ ∃ f, oChunks d (at2 t) f)
/-- What a task ends at: its rows of the result are gathered. -/
abbrev tdPts (d : Dev nD) (t : Fin 2 × Fin 16) : sProp 𝕄 :=
  iprop((iLoc d ↦[iSet (at2 t)]{fullShare} fi d) ∗ (xLoc d ↦{xShare t} fx d) ∗ oChunks d (at2 t) (rowsOf (fi d) (fx d)))

/-- The pair of numbers of a task as the launch counts them. -/
abbrev pr (q : Fin 1) (c : Fin ((K (F := F)).nCore q)) (i : Fin ((K (F := F)).nSub q)) : Fin 2 × Fin 16 :=
  match q with
  | 0 => (Fin.cast rfl c, Fin.cast rfl i)

/-- What the handshakes of the call carry. -/
def P : (K (F := F)).Pay (nD := nD) (Val := Elt F) (Name := ℕ) (U := UU) where
  st q d c := bigSep Finset.univ fun i => goPts fi fx d (pr q c i)
  dn q d c := bigSep Finset.univ fun i => tdPts fi fx d (pr q c i)
  go q d c i := goPts fi fx d (pr q c i)
  td q d c i := tdPts fi fx d (pr q c i)
  x := fun _ _ => iprop(emp)

/-- What the handshakes carry may be kept by a semaphore. -/
instance P_storable : (P fi fx).IsStorable where
  st q d c := by unfold P; infer_instance
  dn q d c := by unfold P; infer_instance
  go q d c i := by unfold P; infer_instance
  td q d c i := by unfold P; infer_instance

/-- What a sequencer is handed is what its tasks start from, and what they end at is what it hands back. -/
theorem vecSplit : (K (F := F)).VecSplit' (P fi fx) 0 := by
  intro d c
  show (bigSep Finset.univ fun i => goPts fi fx d (pr 0 c i)) ⊢ |={Set.univ}=> iprop((bigSep Finset.univ fun i => goPts fi fx d (pr 0 c i))
    ∗ ((bigSep Finset.univ fun i => tdPts fi fx d (pr 0 c i)) -∗ bigSep Finset.univ fun i => tdPts fi fx d (pr 0 c i)))
  iintro H; imodintro
  isplitl [H]; · iexact H
  iintro H; iexact H

/-- What the sequencers are handed is what all tasks start from. -/
theorem st0_eq (d : Dev nD) : (bigSep Finset.univ fun c : Fin ((K (F := F)).nCore 0) => (P fi fx).st 0 d c)
    = bigSep Finset.univ fun t : Fin 2 × Fin 16 => goPts fi fx d t :=
  (BI.bigSep_univ_prod (fun t : Fin 2 × Fin 16 => goPts fi fx d t)).symm
/-- What the sequencers hand back is the arrays whole, with every row gathered. -/
theorem dn0_eq (d : Dev nD) : (bigSep Finset.univ fun c : Fin ((K (F := F)).nCore 0) => (P fi fx).dn 0 d c)
    = iprop((iLoc d ↦{fullShare} fi d) ∗ (xLoc d ↦{fullShare} fx d) ∗ oLoc d ↦{fullShare} rowsOf (fi d) (fx d)) := by
  rw [i_split, x_split, o_split, ← bigSep_sep', ← bigSep_sep']
  exact (BI.bigSep_univ_prod (fun t : Fin 2 × Fin 16 => tdPts fi fx d t)).symm

/-- The arrays whole are what the tasks start from. -/
theorem st0_of (d : Dev nD) (f : Buf (Elt F) (oLoc d)) :
    (iprop((iLoc d ↦{fullShare} fi d) ∗ (xLoc d ↦{fullShare} fx d) ∗ oLoc d ↦{fullShare} f) : sProp 𝕄)
      ⊢ bigSep Finset.univ fun c : Fin ((K (F := F)).nCore 0) => (P fi fx).st 0 d c := by
  rw [st0_eq, i_split, x_split, o_split, ← bigSep_sep', ← bigSep_sep']
  refine bigSep_mono fun t _ => ?_
  show iprop((iLoc d ↦[iSet (at2 t)]{fullShare} fi d) ∗ (xLoc d ↦{xShare t} fx d) ∗ oChunks d (at2 t) f)
    ⊢ iprop((iLoc d ↦[iSet (at2 t)]{fullShare} fi d) ∗ (xLoc d ↦{xShare t} fx d) ∗ ∃ f, oChunks d (at2 t) f)
  iintro ⟨Hi, Hx, Ho⟩
  isplitl [Hi]; · iexact Hi
  isplitl [Hx]; · iexact Hx
  iexists f; iexact Ho

/-- The accounts at the launch. -/
def u₀ : UU := (initOf (K (F := F)).hsCells (K (F := F)).hsToks, 1)

/-- Many times nothing is nothing. -/
theorem bigSep_emp' {I : Type} (s : Finset I) : (bigSep s fun _ => iprop(emp)) = (iprop(emp) : sProp 𝕄) := bigSep_emp_const s

/-- The accounts at the launch are what the threads start from. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P fi fx).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P fi fx).x q thr) = bigSep Finset.univ fun _ => iprop(emp) from
    bigSep_congr fun _ _ => bigSep_univ_of_subsingleton (0 : Fin 1), bigSep_emp']
  iempintro

variable [FloatOps F]

/-- What a subcore runs in the call. -/
theorem defs₀_vector (c : Fin τ.nSC) (s : Fin τ.nSub) :
    defs₀ (F := F) (.scVector c s) 0 () = SparseCore.onTile hcore0 hsub0 (fun c s => cc0__gather_body (coordsV c s)
      (Memref.whole main_v0_scv) (Memref.isWhole_whole _) (Memref.whole main_arg1_scv) (Memref.isWhole_whole _)
      (Memref.whole main_v1_scv) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scratch7 cc0_scratch8 cc0_scratch9 cc0_scratch10 cc0_scratch11 cc0_scratch12 cc0_scoped0) ⟨⟩ c s := rfl

/-- A weaker account of the waits a task has made. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task meets what the launch asks of it, when every row number is in range. -/
theorem tileObl (hpre : ∀ d j, (fi d j).toNat < 8192) : (K (F := F)).TileObl (D (F := F)) 𝒱 (P fi fx) v₀ 0 := by
  intro d c i O W hO _ _
  simp only [show (P fi fx).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (xShare (pr 0 c i)) (fi d) (fx d) (hpre d) O W hO).trans
    (wp_mono frame _ _ fun _ => obl_post)

end Launch

/-! ## `main` -/

section Main

variable [FloatOps F] (m : (ℓ : Loc nD τ sig) → Buf (Elt F) ℓ) (ρ : Dev nD → PrngReg)

/-- The codebook. -/
abbrev cb' : DevRef τ sig := Proc.devRef .tc (main_arg0 : Ref sig .tc)
/-- The row numbers. -/
abbrev i' : DevRef τ sig := Proc.devRef .tc (main_arg1 : Ref sig .tc)
/-- The padding's integer zero. -/
abbrev z' : DevRef τ sig := Proc.devRef .tc (main_c : Ref sig .tc)
/-- The padding's zero. -/
abbrev zf' : DevRef τ sig := Proc.devRef .tc (main_call0_v0 : Ref sig .tc)
/-- The padded table. -/
abbrev x' : DevRef τ sig := Proc.devRef .tc (main_v0 : Ref sig .tc)
/-- The gathered rows. -/
abbrev o' : DevRef τ sig := Proc.devRef .tc (main_v1 : Ref sig .tc)
/-- The result. -/
abbrev r' : DevRef τ sig := Proc.devRef .tc (main_v2 : Ref sig .tc)

/-- Where the result lies. -/
abbrev rLoc (d : Dev nD) : Loc nD τ sig := (SparseCore.T d).loc main_v2
/-- Where the codebook lies. -/
abbrev cbLoc (d : Dev nD) : Loc nD τ sig := (SparseCore.T d).loc main_arg0

/-- The operation that writes the integer zero. -/
abbrev opZ : HloOp τ sig (Elt F) := StableHlo.nullary main_c (constantI S_ 32 0#32)
/-- The operation that makes it a float. -/
abbrev opZf : HloOp τ sig (Elt F) := StableHlo.TRef.unary (.of main_c) main_call0.v0 (sitofp .f32)
/-- The operation that pads the codebook. -/
abbrev opPad : HloOp τ sig (Elt F) :=
  StableHlo.TRef.binary (.of main_arg0 : StableHlo.TRef sig ⟨S8192x64, .f32⟩) main_call0.v0 main_call0.v1
    (fun x v => pad S8192x128 ![0, 0] ![0, 64] ![0, 0] x v pads_S8192x64_S8192x128_000_0640 h_S_)
/-- The operation that cuts the gathered rows to 64 columns. -/
abbrev opCut : HloOp τ sig (Elt F) :=
  StableHlo.unary main_v1 main_v2 ((extractStridedSlice S65536x64 ![0, 0] · slices_S65536x128_S65536x64_0_0) :
    (⟨S65536x128, .f32⟩ : BufTy).Contents (Elt F) → (⟨S65536x64, .f32⟩ : BufTy).Contents (Elt F))

/-- The arrays of `main`. -/
abbrev S7 : Finset (DevRef τ sig) := {cb', i', z', zf', x', o', r'}

/-- Holding the seven arrays is holding each of them. -/
theorem held_S7 (d : Dev nD) (W : Valuation τ sig (Elt F)) :
    (held (T d) S7 W : sProp 𝕄)
      = iprop((cbLoc d ↦{fullShare} W cb') ∗ (iLoc d ↦{fullShare} W i') ∗ ((SparseCore.T d).loc main_c ↦{fullShare} W z')
          ∗ ((SparseCore.T d).loc main_call0_v0 ↦{fullShare} W zf') ∗ (xLoc d ↦{fullShare} W x')
          ∗ (oLoc d ↦{fullShare} W o') ∗ rLoc d ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays the launch hands over are the seven. -/
theorem unscopedBufs_eq (d : Dev nD) (W : (b : Ref sig .tc) → Buf (Elt F) ((d.tc : Thread nD τ).loc b)) :
    (unscopedBufs d W : sProp 𝕄)
      = iprop((cbLoc d ↦{fullShare} W main_arg0) ∗ (iLoc d ↦{fullShare} W main_arg1) ∗ ((SparseCore.T d).loc main_c ↦{fullShare} W main_c)
          ∗ ((SparseCore.T d).loc main_call0_v0 ↦{fullShare} W main_call0_v0) ∗ (xLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_c, main_call0_v0, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays at the launch, before the call, and after it. -/
def V0 (d : Dev nD) : Valuation τ sig (Elt F) := fun b => m (d, b)
/-- The arrays before the call. -/
def V3 (d : Dev nD) : Valuation τ sig (Elt F) := (opPad (F := F)).result ((opZf (F := F)).result ((opZ (F := F)).result (V0 m d)))
/-- The arrays after the call. -/
def V4 (d : Dev nD) : Valuation τ sig (Elt F) := Function.update (V3 m d) o' (rowsOf (m (iLoc d)) (V3 m d x'))

/-- The arrays the launch hands over are held at their contents then. -/
theorem unscoped_held (d : Dev nD) : (unscopedBufs d (fun b => m ((SparseCore.T d).loc b)) : sProp 𝕄) = held (T d) S7 (V0 m d) := by
  rw [unscopedBufs_eq, held_S7]; rfl

/-- What the padding leaves alone. -/
theorem V3_of (d : Dev nD) (b : DevRef τ sig) (h1 : b ≠ z') (h2 : b ≠ zf') (h3 : b ≠ x') : V3 m d b = m (d, b) := by
  unfold V3
  rw [(opPad (F := F)).result_of_not_mem _ (show b ∉ ({x'} : Finset (DevRef τ sig)) from fun h => h3 (Finset.mem_singleton.mp h)),
    (opZf (F := F)).result_of_not_mem _ (show b ∉ ({zf'} : Finset (DevRef τ sig)) from fun h => h2 (Finset.mem_singleton.mp h)),
    (opZ (F := F)).result_of_not_mem _ (show b ∉ ({z'} : Finset (DevRef τ sig)) from fun h => h1 (Finset.mem_singleton.mp h))]
  rfl
/-- The operations before the call leave the row numbers alone. -/
theorem V3_i (d : Dev nD) : V3 m d i' = m (iLoc d) := V3_of m d i' (by decide) (by decide) (by decide)
/-- The operations before the call leave the codebook alone. -/
theorem V3_cb (d : Dev nD) : V3 m d cb' = m (cbLoc d) := V3_of m d cb' (by decide) (by decide) (by decide)
/-- The call changes nothing but the gathered rows. -/
theorem V4_of (d : Dev nD) (b : DevRef τ sig) (h : b ≠ o') : V4 m d b = V3 m d b := Function.update_of_ne h _ _
/-- After the call the gathered rows are the named rows of the table. -/
theorem V4_o (d : Dev nD) : V4 m d o' = rowsOf (m (iLoc d)) (V3 m d x') := Function.update_self _ _ _

/-- The result of `main`. -/
def Rv (d : Dev nD) : Buf (Elt F) (rLoc d) :=
  extractStridedSlice S65536x64 ![0, 0] (rowsOf (m (iLoc d)) (V3 m d x')) slices_S65536x128_S65536x64_0_0

/-- The operation that writes the integer zero stays within the seven arrays. -/
theorem hZ : (opZ (F := F)).bufs ⊆ S7 := show ({z'} : Finset (DevRef τ sig)) ⊆ S7 by decide
/-- The conversion of the zero stays within the seven arrays. -/
theorem hZf : (opZf (F := F)).bufs ⊆ S7 := show ({z', zf'} : Finset (DevRef τ sig)) ⊆ S7 by decide
/-- The padding stays within the seven arrays. -/
theorem hPad : (opPad (F := F)).bufs ⊆ S7 := show ({cb', zf', x'} : Finset (DevRef τ sig)) ⊆ S7 by decide
/-- The cut stays within the seven arrays. -/
theorem hCut : (opCut (F := F)).bufs ⊆ S7 := show ({o', r'} : Finset (DevRef τ sig)) ⊆ S7 by decide

/-- What `main` leaves for the claims: the arguments as they were, and the result. -/
abbrev FIN (d : Dev nD) : sProp 𝕄 :=
  iprop((cbLoc d ↦{fullShare} m (cbLoc d)) ∗ (iLoc d ↦{fullShare} m (iLoc d)) ∗ rLoc d ↦{fullShare} Rv m d)

/-- The arrays before the call, and after the last operation. -/
theorem held_V3 (d : Dev nD) :
    (held (T d) S7 ((opPad (F := F)).result ((opZf (F := F)).result ((opZ (F := F)).result (V0 m d)))) : sProp 𝕄)
      = iprop((cbLoc d ↦{fullShare} m (cbLoc d)) ∗ (iLoc d ↦{fullShare} m (iLoc d)) ∗ ((SparseCore.T d).loc main_c ↦{fullShare} V3 m d z')
          ∗ ((SparseCore.T d).loc main_call0_v0 ↦{fullShare} V3 m d zf') ∗ (xLoc d ↦{fullShare} V3 m d x')
          ∗ (oLoc d ↦{fullShare} V3 m d o') ∗ rLoc d ↦{fullShare} V3 m d r') := by
  show held (SparseCore.T d) S7 (V3 m d) = _
  rw [held_S7, V3_i, V3_cb]
/-- The cut changes nothing but the result. -/
theorem cut_other (d : Dev nD) (b : DevRef τ sig) (h : b ≠ r') : (opCut (F := F)).result (V4 m d) b = V4 m d b :=
  (opCut (F := F)).result_of_not_mem _ (show b ∉ ({r'} : Finset (DevRef τ sig)) from fun e => h (Finset.mem_singleton.mp e))
/-- The seven arrays after the last operation, one by one. -/
theorem held_V5 (d : Dev nD) :
    (held (T d) S7 ((opCut (F := F)).result (V4 m d)) : sProp 𝕄)
      = iprop((cbLoc d ↦{fullShare} m (cbLoc d)) ∗ (iLoc d ↦{fullShare} m (iLoc d)) ∗ ((SparseCore.T d).loc main_c ↦{fullShare} V3 m d z')
          ∗ ((SparseCore.T d).loc main_call0_v0 ↦{fullShare} V3 m d zf') ∗ (xLoc d ↦{fullShare} V3 m d x')
          ∗ (oLoc d ↦{fullShare} V4 m d o') ∗ rLoc d ↦{fullShare} Rv m d) := by
  rw [held_S7, cut_other m d cb' (by decide), cut_other m d i' (by decide), cut_other m d z' (by decide), cut_other m d zf' (by decide),
    cut_other m d x' (by decide), cut_other m d o' (by decide), V4_of m d cb' (by decide), V4_of m d i' (by decide), V4_of m d z' (by decide),
    V4_of m d zf' (by decide), V4_of m d x' (by decide), V3_i, V3_cb,
    show (opCut (F := F)).result (V4 m d) r' = Rv m d from (StableHlo.unary_result main_v1 main_v2 _ _ _ (V4 m d)).trans (by rw [V4_o]; rfl)]

/-- `main` on a device: the table is padded, the call runs from the row numbers, the table and the result, and the
    first 64 columns are taken. -/
theorem hmain (κ : GSem nD τ sig → ℕ) (d : Dev nD) :
    iprop((K (F := F)).ctx EH (P (fun d => m (iLoc d)) (fun d => V3 m d x')) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opZ) (S := S7) hZ (V := V0 m d)) $$ [Hb Hheld]
  · isplitl [Hb] <;> iassumption
  iintro ⟨Hb, Hheld⟩
  rw [wp_ret]; imodintro
  iapply (wp_hlo_within 𝒱 (SparseCore.T d) none Set.univ (op := opZf) (S := S7) hZf (V := (opZ (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := S7) hPad (V := (opZf (F := F)).result ((opZ (F := F)).result (V0 m d)))) $$ [Hb Hheld]
  · isplitl [Hb] <;> iassumption
  iintro ⟨Hb, Hheld⟩
  rw [wp_ret]; imodintro; imodintro
  ihave Hh := (Entails.of_eq (held_V3 (F := F) m d)) $$ Hheld
  icases Hh with ⟨Hcb, Hi, Hz, Hzf, Hx, Ho, Hr⟩
  iapply ((K (F := F)).wp_run (D (F := F)) 𝒱 (EH := EH) (P := P (fun d => m (iLoc d)) (fun d => V3 m d x')) κ d 0) $$ [Hst Hcb Hi Hz Hzf Hx Ho Hr Hb Hts]
  isplitr; · iexact Hctx
  isplitl [Hst]; · iexact Hst
  isplitl [Hi Hx Ho]
  · iapply (st0_of (fun d => m (iLoc d)) (fun d => V3 m d x') d (V3 m d o'))
    isplitl [Hi]; · iexact Hi
    isplitl [Hx]; · iexact Hx
    iexact Ho
  iintro ⟨Hst, Hdn⟩
  ihave Hdn' := (Entails.of_eq (dn0_eq (fun d => m (iLoc d)) (fun d => V3 m d x') d)) $$ Hdn
  icases Hdn' with ⟨Hi, Hx, Ho⟩
  iapply (wp_hlo_within 𝒱 (SparseCore.T d) none Set.univ (op := opCut) (S := S7) hCut (V := V4 m d)) $$ [Hb Hcb Hi Hz Hzf Hx Ho Hr]
  · isplitl [Hb]; · iexact Hb
    rw [held_S7, V4_o, V4_of m d cb' (by decide), V4_of m d i' (by decide), V4_of m d z' (by decide),
      V4_of m d zf' (by decide), V4_of m d x' (by decide), V4_of m d r' (by decide), V3_i, V3_cb]
    isplitl [Hcb]; · iexact Hcb
    isplitl [Hi]; · iexact Hi
    isplitl [Hz]; · iexact Hz
    isplitl [Hzf]; · iexact Hzf
    isplitl [Hx]; · iexact Hx
    isplitl [Ho]; · iexact Ho
    iexact Hr
  iintro ⟨Hb, Hheld⟩
  ihave Hh := (Entails.of_eq (held_V5 (F := F) m d)) $$ Hheld
  icases Hh with ⟨Hcb, Hi, -, -, -, -, Hr⟩
  rw [wp_ret]; imodintro; imodintro
  isplitl [Hst]; · iexact Hst
  isplitr [Hb Hts]
  · isplitl [Hcb]; · iexact Hcb
    isplitl [Hi]; · iexact Hi
    iexact Hr
  isplitl [Hb] <;> iassumption

/-- What the claims read of a final state. -/
def fq (d : Dev nD) (s' : Phys nD τ sig (Elt F)) : Prop :=
  s'.mem.mem (rLoc d) = Rv m d ∧ s'.mem.mem (cbLoc d) = m (cbLoc d) ∧ s'.mem.mem (iLoc d) = m (iLoc d)

/-- What `main` leaves shows what the claims read. -/
theorem hfin (d : Dev nD) (s' : Phys nD τ sig (Elt F)) : iprop(FIN m d ∗ SI s') ⊢ (⌜fq m d s'⌝ : sProp 𝕄) := by
  iintro ⟨⟨Hc, Hi, Hr⟩, HSI⟩
  ihave H := (persistent_entails_right (SI_pointsTo_agree (st := s') (ℓ := cbLoc d) (I := Finset.univ) (q := fullShare) (f := m (cbLoc d)))) $$ [HSI Hc]
  · isplitl [HSI] <;> iassumption
  icases H with ⟨%h0, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := rLoc d) (I := Finset.univ) (q := fullShare) (f := Rv m d)) $$ [HSI Hr]
  · isplitl [HSI] <;> iassumption
  icases H with %h2
  ipureintro
  exact ⟨funext fun i => h2 i (Finset.mem_univ i), funext fun i => h0 i (Finset.mem_univ i), funext fun i => h1 i (Finset.mem_univ i)⟩

/-- What a finished run is: the result and the arguments on every device, every semaphore at zero. -/
def QC : PUnit × MemSt nD τ sig (Elt F) → Prop := fun r =>
  (∀ c : Dev nD, r.2.mem (rLoc c) = Rv m c ∧ r.2.mem (cbLoc c) = m (cbLoc c) ∧ r.2.mem (iLoc c) = m (iLoc c)) ∧ r.2.sem = fun _ => 0

/-- The program's run, when every row number is in range. -/
theorem run_main [∀ e, Nonempty (Elt F e)] (hpre : ∀ (d : Dev nD) j, (m (iLoc d) j).toNat < 8192) :
    θ_run (Cert.Gather.defs (F := F)) (Cert.Gather.threads (F := F)) ⟨m, fun _ => 0, ρ⟩ (QC m) :=
  SparseCore.Cfg.θ_run_sc_quiescent (K := K (F := F)) (D := D (F := F)) (𝒱 := 𝒱) (EH := EH)
    (P := P (fun d => m (iLoc d)) (fun d => V3 m d x')) (A := ∅) facts v₀
    (fun q hq => match q with | 0 => nomatch hq)
    (fun q _ => match q with | 0 => tileObl _ _ hpre)
    (fun q _ => match q with | 0 => SparseCore.Cfg.VecSplit.of_plain (vecSplit _ _))
    m ρ main (fun _ => iprop(emp)) (FIN m) (u₀ (F := F)) (sep_elim_left.trans (hu₀ _ _)) (hmain m ρ) (fq m) (hfin m) (QC m) (fun _ h hz => ⟨h, hz⟩)

/-! ## The result -/

/-- The padded table is the codebook in its first 64 columns. -/
theorem padded (d : Dev nD) (r : Fin 8192) (c : Fin 128) (k : S8192x64.Idx) (h0 : (k 0).val = r.val) (h1 : (k 1).val = c.val) :
    V3 m d x' (cellAt r c) = m (cbLoc d) k := by
  refine (congrFun (StableHlo.binary_result main_arg0 main_call0_v0 main_v0 _ _ _ _ _) (cellAt r c)).trans ?_
  refine (pad_apply_of_inside ![0, 0] ![0, 64] ![0, 0] _ _ pads_S8192x64_S8192x128_000_0640 h_S_ (cellAt r c) k ?_).trans ?_
  · exact Fin.forall_fin_two.mpr ⟨by show r.val = 0 + (k 0).val * 1; omega, by show c.val = 0 + (k 1).val * 1; omega⟩
  exact congrFun ((show (StableHlo.TRef.of (sig := sig) (T := ⟨S8192x64, .f32⟩) main_arg0).ofBuf
      ((opZf (F := F)).result ((opZ (F := F)).result (V0 m d)) (Proc.tc.devRef main_arg0)) = _ from cast_eq _ _).trans
    (((opZf (F := F)).result_of_not_mem _ (show cb' ∉ ({zf'} : Finset (DevRef τ sig)) by decide)).trans
      ((opZ (F := F)).result_of_not_mem _ (show cb' ∉ ({z'} : Finset (DevRef τ sig)) by decide)))) k

/-- The place of a result row's number in `idx`, and the codebook's element at a row and a column. -/
def rowIx64 (j : S65536x64.Idx) : S65536.Idx := fun | 0 => j 0
/-- The place of the codebook with a given row and column. -/
def cell64 (r : Fin 8192) (c : Fin 64) : S8192x64.Idx := fun | 0 => r | 1 => c

/-- The result, element by element: the codebook at the row numbered by `idx` and the same column. -/
theorem Rv_apply (d : Dev nD) (j : S65536x64.Idx) :
    Rv m d j = m (cbLoc d) (cell64 (rowAt (m (iLoc d) (rowIx64 j))) (j 1)) := by
  unfold Rv rowsOf
  refine (padded m d _ _ (cell64 (rowAt (m (iLoc d) (rowIx64 j))) (j 1)) ?_ ?_)
  · have e : ∀ x : S65536x128.Idx, (x 0).val = (j 0).val → rowIx x = rowIx64 j := fun x h => funext fun a => match a with | 0 => Fin.ext h
    exact congrArg (fun y => (rowAt (m (iLoc d) y)).val) (e _ (Nat.zero_add _)).symm
  · exact (Nat.zero_add _).symm

end Main

end Cert.Proof.Rows

end
-- ==== Proof.TakeOf.lean ====
/-
  Taking rows of a table by number, as jax spells it: a negative number counts from the end, and a number out of range
  gives a row of a constant. `takeOf` is that chain of operations; `takeOf_apply` says that for numbers in range it is
  the row named.
-/
module

public import proofs.«01_k».proof.Defs
public import Idealize.ShloMosaic.Lib.Claim
public import Idealize.ShloMosaic.Lib.Routing.Ops
public import Idealize.ShloMosaic.Lib.StableHlo.Predicate
public import Idealize.ShloMosaic.Lib.ReduceAll
public import proofs.«01_k».proof.Proof.Gen.TakeIdeal

@[expose] public section

noncomputable section

namespace Cert.Proof.Take

open Cert.TakeIdeal Cert.TakeIdeal.Gen
open Idealize.ShloMosaic Idealize.SL.Sem
open Idealize.ShloMosaic.ValueIdx

variable {F : FTy → Type} [FloatOps F]

/-- The row numbers with the negative ones counted from the end, as a column. -/
def starts (i : IVec S65536 32) : IVec S65536x1 32 :=
  broadcastInDim S65536x1 ![0] bcast_S65536_S65536x1_0
    (select (cmpi .slt i (broadcastInDim S65536 ![] bcast_S_S65536 (constantI S_ 32 0#32)))
      (addi i (broadcastInDim S65536 ![] bcast_S_S65536 (constantI S_ 32 8192#32))) i)

/-- Which row numbers name a row. -/
def inside (i : IVec S65536 32) : IVec S65536 1 :=
  Host.reduce IntOp.andi (andi (cmpi .sge (starts i) (broadcastInDim S65536x1 ![] bcast_S_S65536x1 (constantI S_ 32 0#32)))
    (cmpi .sle (starts i) (broadcastInDim S65536x1 ![0, 1] bcast_S1x1_S65536x1_0_1 (broadcastInDim S1x1 ![1] bcast_S1_S1x1_1 (constantI S1 32 8191#32)))))
    (constantI S_ 1 1#1) reducesTo_S65536x1_S65536_d1 h_S_

/-- The rows of `x` numbered by `i`. -/
def takeOf (x : FVec F S8192x64 .f32) (i : IVec S65536 32) : FVec F S65536x64 .f32 :=
  select (broadcastInDim S65536x64 ![0] bcast_S65536_S65536x64_0 (inside i))
    (Host.gather gather_S8192x64_S65536x1_S65536x64_1_0_n_n_0_1_164 x (starts i))
    (broadcastInDim S65536x64 ![] bcast_S_S65536x64 (constant S_ .f32 0x7FC00000#32))

/-- A number in range, read as a signed word: not negative, and at most the last row. -/
theorem word_facts (w : BitVec 32) (h : w.toNat < 8192) :
    IntOp.cmpi .slt w 0#32 = 0#1 ∧ IntOp.cmpi .sge w 0#32 = 1#1 ∧ IntOp.cmpi .sle w 8191#32 = 1#1 := by
  simp only [IntOp.cmpi, BitVec.sle_eq_decide, BitVec.slt_eq_decide, BitVec.toInt_eq_toNat_cond, BitVec.toNat_ofNat, Nat.reducePow, Nat.reduceMod]
  refine ⟨?_, ?_, ?_⟩
  · rw [decide_eq_false (by omega)]; rfl
  · rw [decide_eq_true (by omega)]; rfl
  · rw [decide_eq_true (by omega)]; rfl

/-- A number in range is kept. -/
theorem starts_apply (i : IVec S65536 32) (hi : ∀ j, (i j).toNat < 8192) (k : S65536x1.Idx) :
    starts i k = i (fun | 0 => k 0) := by
  have e : ∀ y : S65536.Idx, (y 0).val = (k 0).val → y = (fun | 0 => k 0) := fun y h => funext fun a => match a with | 0 => Fin.ext h
  unfold starts
  refine Eq.trans (b := Scalar.select (IntOp.cmpi .slt (i fun | 0 => k 0) 0#32)
    (addi i (broadcastInDim S65536 ![] bcast_S_S65536 (constantI S_ 32 8192#32)) fun | 0 => k 0) (i fun | 0 => k 0)) ?_ ?_
  · rw [← e (fun a => if h : ![65536] a = 1 then ⟨0, by rw [show S65536.size a = 1 from h]; exact Nat.one_pos⟩ else ⟨(k (![0] a)).val, by match a with | 0 => exact (k 0).isLt⟩) rfl]
    rfl
  · rw [(word_facts _ (hi _)).1]; rfl

/-- Every number in range names a row. -/
theorem inside_apply (i : IVec S65536 32) (hi : ∀ j, (i j).toNat < 8192) (j : S65536.Idx) : inside i j = 1#1 := by
  unfold inside
  refine Host.reduce_andi_one _ _ _ _ j rfl fun k => ?_
  have h := word_facts _ (hi fun | 0 => k 0)
  refine Eq.trans (b := IntOp.andi (IntOp.cmpi .sge (starts i k) 0#32) (IntOp.cmpi .sle (starts i k) 8191#32)) rfl ?_
  rw [starts_apply i hi, h.2.1, h.2.2]; rfl

/-- The place of a result row's number. -/
def rowNo (j : S65536x64.Idx) : S65536.Idx := fun | 0 => j 0
/-- A place of the list is known by its number. -/
theorem eq_rowNo (j : S65536x64.Idx) (y : S65536.Idx) (h : (y 0).val = (j 0).val) : y = rowNo j :=
  funext fun a => match a with | 0 => Fin.ext h

/-- For numbers in range, `takeOf` is the rows they name. -/
theorem takeOf_apply (x : FVec F S8192x64 .f32) (i : IVec S65536 32) (hi : ∀ j, (i j).toNat < 8192) (j : S65536x64.Idx) :
    takeOf x i j = x (ix2 ⟨(i (rowNo j)).toNat, hi _⟩ (j 1)) := by
  refine Eq.trans (b := Scalar.select (inside i (rowNo j))
    (Host.gather gather_S8192x64_S65536x1_S65536x64_1_0_n_n_0_1_164 x (starts i) j) ((constant S_ .f32 0x7FC00000#32 : FVec F S_ .f32) (Shape.Idx.first h_S_))) ?_ ?_
  · refine Eq.trans ?_ (congrArg (fun y => Scalar.select (inside i y)
      (Host.gather gather_S8192x64_S65536x1_S65536x64_1_0_n_n_0_1_164 x (starts i) j) ((constant S_ .f32 0x7FC00000#32 : FVec F S_ .f32) (Shape.Idx.first h_S_)))
      (eq_rowNo j (fun a => if h : ![65536] a = 1 then ⟨0, by rw [show S65536.size a = 1 from h]; exact Nat.one_pos⟩ else ⟨(j (![0] a)).val, by match a with | 0 => exact (j 0).isLt⟩) rfl))
    rfl
  · rw [inside_apply i hi]
    have ej : j = ix2 (j 0) (j 1) := funext fun a => match a with | 0 => rfl | 1 => rfl
    refine (show _ = Host.gather gather_S8192x64_S65536x1_S65536x64_1_0_n_n_0_1_164 x (starts i) (ix2 (j 0) (j 1)) from (congrArg _ ej)).trans ?_
    refine Routing.gather_row _ rfl rfl rfl rfl rfl x (starts i) (j 0) (j 1) ⟨(i (rowNo j)).toNat, hi _⟩ ?_ (by decide)
    rw [starts_apply i hi, BitVec.ofNat_toNat, BitVec.setWidth_eq]
    exact congrArg i (funext fun a => match a with | 0 => rfl)

end Cert.Proof.Take

end
-- ==== Proof.GatherClaims.lean ====
/-
  The claims about the row-gathering call: it runs and leaves its arguments alone, in words and over the extended
  reals, and what it leaves is the plain taking of rows. The two readings of the program are one text, so both runs are
  the one theorem of `GatherRun`, used at each reading.
-/
module

public import proofs.«01_k».proof.Proof.GatherRun
public import proofs.«01_k».proof.Proof.TakeOf
public import proofs.«01_k».proof.Proof.Gen.GatherIdeal
public import proofs.«01_k».proof.Proof.Gen.Pre_in_range

@[expose] public section

set_option maxRecDepth 16384

noncomputable section

namespace Cert.Proof.Rows

open Idealize.ShloMosaic Idealize.SL.Sem
open Idealize.ShloMosaic.ValueIdx

/-- A word that is at least 0 and below 8192 when read signed is below 8192. -/
theorem below_of_signed (v : BitVec 32) (e : IntOp.andi (IntOp.cmpi .sge v 0#32) (IntOp.cmpi .slt v 8192#32) = 1#1) : v.toNat < 8192 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- An array of no axes has one entry. -/
instance : Subsingleton Cert.Pre_in_range.S_.Idx := ⟨fun _ _ => funext fun a => a.elim0⟩

/-- The precondition says that every row number is below 8192. -/
theorem below_of_pre {F : FTy → Type} [FloatOps F] (x : FVec F Cert.Pre_in_range.S8192x64 .f32) (i : IVec Cert.Pre_in_range.S65536 32)
    (h : Cert.Pre_in_range.fn x i = fun _ => 1#1) (j : Cert.Pre_in_range.S65536.Idx) : (i j).toNat < 8192 :=
  below_of_signed _ (Host.reduce_andi_all _ _ _ _ (fun a => a.elim0) (congrFun h fun a => a.elim0) j)

/-- The call in words runs, and leaves its arguments as they were. -/
theorem frame_words : Cert.quiescent_Gather := fun m ρ hpre =>
  (θ_run Cert.Gather.defs _ _).mono (fun _ h => ⟨fun c => (h.1 c).2, h.2⟩)
    (run_main (F := Bits) m ρ fun d j => below_of_pre _ _ (hpre d) j)

/-- The same run over the extended reals. -/
theorem run_ideal (m : (ℓ : Loc Cert.GatherIdeal.nD Cert.GatherIdeal.τ Cert.GatherIdeal.sig) → Buf (Elt Ideal) ℓ)
    (ρ : Dev Cert.GatherIdeal.nD → PrngReg) (hpre : Cert.Pre_GatherIdeal m) :
    θ_run (Cert.GatherIdeal.defs (F := Ideal)) (Cert.GatherIdeal.threads (F := Ideal)) ⟨m, fun _ => 0, ρ⟩ (QC (F := Ideal) m) :=
  run_main (F := Ideal) m ρ fun d j => below_of_pre _ _ (hpre d) j

/-- The call over the extended reals runs, and leaves its arguments as they were. -/
theorem frame_ideal : Cert.quiescent_GatherIdeal := fun m ρ hpre =>
  (θ_run Cert.GatherIdeal.defs _ _).mono (fun _ h => ⟨fun c => (h.1 c).2, h.2⟩) (run_ideal m ρ hpre)

/-- The run of the plain taking of rows: its result is `takeOf` of its arguments. -/
theorem run_take (m : (ℓ : Loc Cert.TakeIdeal.nD Cert.TakeIdeal.τ Cert.TakeIdeal.sig) → Buf (Elt Ideal) ℓ) (g : Dev Cert.TakeIdeal.nD → PrngReg) :
    θ_run (Cert.TakeIdeal.defs (F := Ideal)) (onTc (τ := Cert.TakeIdeal.τ) (Cert.TakeIdeal.main (F := Ideal))) ⟨m, fun _ => 0, g⟩ (fun r => ∀ c : Dev Cert.TakeIdeal.nD,
      r.2.mem ((c.tc : Thread Cert.TakeIdeal.nD Cert.TakeIdeal.τ).loc Cert.TakeIdeal.main_v0)
        = Take.takeOf (F := Ideal) (m ((c.tc : Thread Cert.TakeIdeal.nD Cert.TakeIdeal.τ).loc Cert.TakeIdeal.main_arg0)) (m ((c.tc : Thread Cert.TakeIdeal.nD Cert.TakeIdeal.τ).loc Cert.TakeIdeal.main_arg1))
      ∧ r.2.mem ((c.tc : Thread Cert.TakeIdeal.nD Cert.TakeIdeal.τ).loc Cert.TakeIdeal.main_arg0) = m ((c.tc : Thread Cert.TakeIdeal.nD Cert.TakeIdeal.τ).loc Cert.TakeIdeal.main_arg0)
      ∧ r.2.mem ((c.tc : Thread Cert.TakeIdeal.nD Cert.TakeIdeal.τ).loc Cert.TakeIdeal.main_arg1) = m ((c.tc : Thread Cert.TakeIdeal.nD Cert.TakeIdeal.τ).loc Cert.TakeIdeal.main_arg1)) := by
  hlo_run
  simp only [StableHlo.TRef.ofBuf_toBuf, StableHlo.TRef.ofBuf, StableHlo.TRef.toBuf, cast_eq]
  rfl

/-- The plain taking of rows runs, and leaves its arguments as they were. -/
theorem frame_take : Cert.quiescent_TakeIdeal := fun m g _ =>
  (θ_run Cert.TakeIdeal.defs _ _).mono (fun r h => ⟨fun c => (h c).2, Idealize.ShloMosaic.sem_eq_zero_of_no_sems (by decide) r.2⟩) (run_take m g)

/-- The same, said again under the precondition. -/
theorem frame_take_pre : Cert.quiescent_TakeIdeal_pre_in_range := fun m g _ => frame_take m g trivial

/-- The gathered rows of the codebook are its taken rows. -/
theorem rows_eq (m : (ℓ : Loc Cert.Gather.nD Cert.Gather.τ Cert.Gather.sig) → Buf (Elt Ideal) ℓ)
    (hi : ∀ (d : Dev Cert.Gather.nD) j, (m (iLoc d) j).toNat < 8192) (d : Dev Cert.Gather.nD) :
    Rv m d = Take.takeOf (F := Ideal) (m (cbLoc d)) (m (iLoc d)) := by
  funext j
  refine (Rv_apply m d j).trans ((congrArg (m (cbLoc d)) ?_).trans (Take.takeOf_apply (F := Ideal) (m (cbLoc d)) (m (iLoc d)) (hi d) j).symm)
  have e : rowIx64 j = Take.rowNo j := funext fun a => match a with | 0 => rfl
  funext a
  match a with
  | 0 => exact Fin.ext ((congrArg (fun y => (m (iLoc d) y).toNat % 8192) e).trans (Nat.mod_eq_of_lt (hi d _)))
  | 1 => rfl

/-- The call's result is the plain taking of rows of the codebook. -/
theorem values : Cert.algebraic_GatherIdeal_TakeIdeal := fun m g m' g' hpre hagree =>
  ⟨fun c => Take.takeOf (F := Ideal) (m ((c.tc : Thread Cert.GatherIdeal.nD Cert.GatherIdeal.τ).loc Cert.GatherIdeal.main_arg0))
      (m ((c.tc : Thread Cert.GatherIdeal.nD Cert.GatherIdeal.τ).loc Cert.GatherIdeal.main_arg1)),
    (θ_run Cert.GatherIdeal.defs _ _).mono
      (fun _ h c => ⟨(h.1 c).1.trans (rows_eq m (fun d j => below_of_pre _ _ (hpre d) j) c), (h.1 c).2⟩) (run_ideal m g hpre),
    (θ_run Cert.TakeIdeal.defs _ _).mono
      (fun _ h c => ⟨(h c).1.trans (by rw [(hagree c).1, (hagree c).2]), (h c).2⟩) (run_take m' g')⟩

end Cert.Proof.Rows

end
-- ==== Proof.DistVal.lean ====
/-
  The distance call, what one block of it computes: the body's values as functions of the blocks it loads. A block is
  512 rows of `z`, worked as two halves of 256 rows; the codebook is read in four pieces of 2048 rows. Generic in the
  reading `F` of the floats.
-/
module

public import proofs.«01_k».proof.Proof.Gen.KernelIdeal
public import proofs.«01_k».proof.Proof.Gen.KernelIdeal.Skeleton

@[expose] public section

noncomputable section

namespace Cert.Proof.Whole

open Cert.KernelIdeal Cert.KernelIdeal.Gen
open Idealize.ShloMosaic Idealize.SL.Sem

variable {F : FTy → Type} [FloatOps F]

/-- The guarded distances of 256 rows (`zb`, with their squared lengths `ab`) from the 2048 codebook rows of one piece
    (twice the rows, `cb`, with their squared lengths `bb`): `g · rsqrt g` for `g` the guarded squared distance. -/
def pieceDist (zb : FVec F S256x64 .f32) (ab : FVec F S256x1 .f32) (cb : FVec F S2048x64 .f32) (bb : FVec F S1x2048 .f32) :
    FVec F S256x2048 .f32 :=
  let g := maximumf
    (subf (addf (broadcastTo S256x2048 ab broadcasts_S256x1_S256x2048)
        (broadcastTo S256x2048 (shapeCast S1x2048 bb shapeCasts_S1x2048_S1x2048) broadcasts_S1x2048_S256x2048))
      (matmul dot_S256x64_S2048x64_S256x2048_1_1_0_0_n_n none zb (shapeCast S2048x64 cb shapeCasts_S2048x64_S2048x64)
        (constant S256x2048 .f32 0x00000000#32)))
    (broadcast S256x2048 (Scalar.ofBits .f32 0x00800000#32))
  mulf g (rsqrt g)

/-- The least entry of each row. -/
def rowMin (d : FVec F S256x2048 .f32) : FVec F S256x1 .f32 :=
  shapeCast S256x1 (multiReduction .minimumf [1] S256 d 0x7F800000#32 reduces_S256x2048_S256 (.inl rfl) rfl) shapeCasts_S256_S256x1

/-- The least entry of each row over the four pieces. -/
def leastOf (d : Fin 4 → FVec F S256x2048 .f32) : FVec F S256x1 .f32 :=
  minimumf (minimumf (rowMin (d 0)) (rowMin (d 1))) (minimumf (rowMin (d 2)) (rowMin (d 3)))

/-- Each column's number where its entry is the row's least `m`, and 8192 elsewhere. -/
def markAt (d : FVec F S256x2048 .f32) (m : FVec F S256x1 .f32) : FVec F S256x2048 .f32 :=
  select (cmpf .oeq d (broadcastTo S256x2048 m broadcasts_S256x1_S256x2048))
    (broadcastTo S256x2048 (shapeCast S1x2048 (sitofp .f32 (iota .tc S1x2048 32 [1] iota_S1x2048_d1_w32)) shapeCasts_S1x2048_S1x2048)
      broadcasts_S1x2048_S256x2048)
    (broadcast S256x2048 (Scalar.ofBits .f32 0x46000000#32))

/-- The first column of the piece, counted from `off`, whose entry is the row's least `m`; 8192 and more if none is. -/
def piecePick (d : FVec F S256x2048 .f32) (m : FVec F S256x1 .f32) (off : BitVec 32) : FVec F S256x1 .f32 :=
  addf (rowMin (markAt d m)) (broadcast S256x1 (Scalar.ofBits .f32 off))

/-- The first column over the four pieces whose entry is the row's least. -/
def pickOf (d : Fin 4 → FVec F S256x2048 .f32) : FVec F S256x1 .f32 :=
  let m := leastOf d
  minimumf (minimumf (minimumf (minimumf (broadcast S256x1 (Scalar.ofBits .f32 0x46000000#32))
    (piecePick (d 0) m 0x00000000#32)) (piecePick (d 1) m 0x45000000#32)) (piecePick (d 2) m 0x45800000#32)) (piecePick (d 3) m 0x45C00000#32)

/-- The sum of the squares of 256 entries. -/
def sumSq (m : FVec F S256x1 .f32) : F .f32 :=
  extractAt ![0, 0, 0] (shapeCast S1x1x1 (multiReduction .add [1, 2] S1 (shapeCast S1x256x1 (mulf m m) shapeCasts_S256x1_S1x256x1)
    0x00000000#32 reduces_S1x256x1_S1 (.inl rfl) rfl) shapeCasts_S1_S1x1x1) inpos_S1x1x1_p0_0_0

/-- The upper and the lower half of a block's rows, and of their squared lengths. -/
def zHalf (z : FVec F S512x64 .f32) : Fin 2 → FVec F S256x64 .f32
  | 0 => extractStridedSlice S256x64 ![0, 0] z slices_S512x64_o0_0_S256x64
  | 1 => extractStridedSlice S256x64 ![256, 0] z slices_S512x64_o256_0_S256x64

@[inherit_doc zHalf]
def aHalf (a : FVec F S512x1 .f32) : Fin 2 → FVec F S256x1 .f32
  | 0 => extractStridedSlice S256x1 ![0, 0] (shapeCast S512x1 a shapeCasts_S512x1_S512x1) slices_S512x1_o0_0_S256x1
  | 1 => extractStridedSlice S256x1 ![256, 0] (shapeCast S512x1 a shapeCasts_S512x1_S512x1) slices_S512x1_o256_0_S256x1

/-- The distances of one half of a block from the four pieces. -/
def halfDist (z : FVec F S512x64 .f32) (a : FVec F S512x1 .f32) (C : Fin 4 → FVec F S2048x64 .f32) (B : Fin 4 → FVec F S1x2048 .f32)
    (h : Fin 2) (p : Fin 4) : FVec F S256x2048 .f32 :=
  pieceDist (zHalf z h) (aHalf a h) (C p) (B p)

/-- The four pieces of the doubled codebook, 2048 rows each. -/
def cbPiece (C : FVec F S8192x64 .f32) : Fin 4 → FVec F S2048x64 .f32
  | 0 => fun x => C ((Rect.unit (s := S8192x64) ![0, 0] S2048x64.size inb_S8192x64_S2048x64_0_0).toLoadRect.idx x)
  | 1 => fun x => C ((Rect.unit (s := S8192x64) ![2048, 0] S2048x64.size inb_S8192x64_S2048x64_2048_0).toLoadRect.idx x)
  | 2 => fun x => C ((Rect.unit (s := S8192x64) ![4096, 0] S2048x64.size inb_S8192x64_S2048x64_4096_0).toLoadRect.idx x)
  | 3 => fun x => C ((Rect.unit (s := S8192x64) ![6144, 0] S2048x64.size inb_S8192x64_S2048x64_6144_0).toLoadRect.idx x)

/-- The four pieces of the codebook rows' squared lengths. -/
def bbPiece (B : FVec F S1x8192 .f32) : Fin 4 → FVec F S1x2048 .f32
  | 0 => fun x => B ((Rect.unit (s := S1x8192) ![0, 0] S1x2048.size inb_S1x8192_S1x2048_0_0).toLoadRect.idx x)
  | 1 => fun x => B ((Rect.unit (s := S1x8192) ![0, 2048] S1x2048.size inb_S1x8192_S1x2048_0_2048).toLoadRect.idx x)
  | 2 => fun x => B ((Rect.unit (s := S1x8192) ![0, 4096] S1x2048.size inb_S1x8192_S1x2048_0_4096).toLoadRect.idx x)
  | 3 => fun x => B ((Rect.unit (s := S1x8192) ![0, 6144] S1x2048.size inb_S1x8192_S1x2048_0_6144).toLoadRect.idx x)

/-- A block's distances: of each half's rows from each piece's, over the blocks the body loads. -/
def blockDist (a : FVec F S512x1 .f32) (B : FVec F S1x8192 .f32) (z : FVec F S512x64 .f32) (C : FVec F S8192x64 .f32) :
    Fin 2 → Fin 4 → FVec F S256x2048 .f32 :=
  halfDist z a (cbPiece C) (bbPiece B)

/-- The 512 picked row numbers of a block, as a row. -/
def pickBlock (d : Fin 2 → Fin 4 → FVec F S256x2048 .f32) : Vec F S1x512 .i32 :=
  fptosi 32 (transpose S1x512 [1, 0] (concatenate S512x1 0 [⟨S256x1, pickOf (d 0)⟩, ⟨S256x1, pickOf (d 1)⟩]
    concatenates_S256x1_S256x1_S512x1_d0) transposes_S512x1_p1_0_S1x512)

/-- The running sum after a block: what stood plus the squares of the block's least distances. -/
def addBlock (d : Fin 2 → Fin 4 → FVec F S256x2048 .f32) (s : Vec F S1x1 .f32) : Vec F S1x1 .f32 :=
  addf (shapeCast S1x1 s shapeCasts_S1x1_S1x1) (broadcast S1x1 (Scalar.addf (sumSq (leastOf (d 0))) (sumSq (leastOf (d 1)))))

/-- The sum scaled by `2^-22`, as the last block leaves it. -/
def scaled (s : Vec F S1x1 .f32) : Vec F S1x1 .f32 :=
  mulf (shapeCast S1x1 s shapeCasts_S1x1_S1x1) (broadcast S1x1 (Scalar.ofBits .f32 0x34800000#32))

/-! ## The printed body's named values

Each is one of the functions above of what it reads; by definition. -/

/-- This value of the body is the upper half of the rows. -/
theorem pay4 (z : Vec F S512x64 .f32) :
    k0_pay4 z = zHalf z 0 := rfl

/-- This value of the body is the upper half of the squared lengths. -/
theorem pay5 (a : Vec F S512x1 .f32) :
    k0_pay5 a = aHalf a 0 := rfl

/-- This value of the body is the upper half's distances from a piece. -/
theorem pay6 (z : Vec F S512x64 .f32) (a : Vec F S512x1 .f32) (c : Vec F S2048x64 .f32) (b : Vec F S1x2048 .f32) :
    k0_pay6 z a c b = pieceDist (zHalf z 0) (aHalf a 0) c b := rfl

/-- This value of the body is the upper half's least distances in a piece. -/
theorem pay7 (z : Vec F S512x64 .f32) (a : Vec F S512x1 .f32) (c : Vec F S2048x64 .f32) (b : Vec F S1x2048 .f32) :
    k0_pay7 z a c b = rowMin (pieceDist (zHalf z 0) (aHalf a 0) c b) := rfl

/-- This value of the body is the upper half's distances from a piece. -/
theorem pay8 (z : Vec F S512x64 .f32) (a : Vec F S512x1 .f32) (c : Vec F S2048x64 .f32) (b : Vec F S1x2048 .f32) :
    k0_pay8 z a c b = pieceDist (zHalf z 0) (aHalf a 0) c b := rfl

/-- This value of the body is the upper half's least distances in a piece. -/
theorem pay9 (z : Vec F S512x64 .f32) (a : Vec F S512x1 .f32) (c : Vec F S2048x64 .f32) (b : Vec F S1x2048 .f32) :
    k0_pay9 z a c b = rowMin (pieceDist (zHalf z 0) (aHalf a 0) c b) := rfl

/-- This value of the body is distances from a piece. -/
theorem pay10 (zh : FVec F S256x64 .f32) (ah : FVec F S256x1 .f32) (c : Vec F S2048x64 .f32) (b : Vec F S1x2048 .f32) :
    k0_pay10 zh ah c b = pieceDist zh ah c b := rfl

/-- This value of the body is distances from a piece. -/
theorem pay11 (zh : FVec F S256x64 .f32) (ah : FVec F S256x1 .f32) (c : Vec F S2048x64 .f32) (b : Vec F S1x2048 .f32) :
    k0_pay11 zh ah c b = pieceDist zh ah c b := rfl

/-- This value of the body is the least distances over the four pieces. -/
theorem pay12 (zh : FVec F S256x64 .f32) (ah : FVec F S256x1 .f32) (m m' : FVec F S256x1 .f32) (c : Vec F S2048x64 .f32) (b : Vec F S1x2048 .f32) (c' : Vec F S2048x64 .f32) (b' : Vec F S1x2048 .f32) :
    k0_pay12 zh ah m m' c b c' b' = minimumf (minimumf m m') (minimumf (rowMin (pieceDist zh ah c b)) (rowMin (pieceDist zh ah c' b'))) := rfl

/-- This value of the body is the lower half of the rows. -/
theorem pay13 (z : Vec F S512x64 .f32) :
    k0_pay13 z = zHalf z 1 := rfl

/-- This value of the body is the lower half of the squared lengths. -/
theorem pay14 (a : Vec F S512x1 .f32) :
    k0_pay14 (k0_pay3 a) = aHalf a 1 := rfl

/-- This value of the body is the lower half's distances from a piece. -/
theorem pay18 (z : Vec F S512x64 .f32) (a : Vec F S512x1 .f32) (c : Vec F S2048x64 .f32) (b : Vec F S1x2048 .f32) :
    k0_pay18 (k0_pay15 z c) (k0_pay16 b) (k0_pay17 (k0_pay3 a)) = pieceDist (zHalf z 1) (aHalf a 1) c b := rfl

/-- This value of the body is the lower half's least distances in a piece. -/
theorem pay19 (z : Vec F S512x64 .f32) (a : Vec F S512x1 .f32) (c : Vec F S2048x64 .f32) (b : Vec F S1x2048 .f32) :
    k0_pay19 (k0_pay15 z c) (k0_pay16 b) (k0_pay17 (k0_pay3 a)) = rowMin (pieceDist (zHalf z 1) (aHalf a 1) c b) := rfl

/-- This value of the body is distances from a piece. -/
theorem pay20 (zh : FVec F S256x64 .f32) (ah : FVec F S256x1 .f32) (c : Vec F S2048x64 .f32) (b : Vec F S1x2048 .f32) :
    k0_pay20 zh ah c b = pieceDist zh ah c b := rfl

/-- This value of the body is distances from a piece. -/
theorem pay22 (zh : FVec F S256x64 .f32) (ah : FVec F S256x1 .f32) (c : Vec F S2048x64 .f32) (b : Vec F S1x2048 .f32) :
    k0_pay22 zh ah c b = pieceDist zh ah c b := rfl

/-- This value of the body is the least distances in a piece. -/
theorem pay21 (zh : FVec F S256x64 .f32) (ah : FVec F S256x1 .f32) (c : Vec F S2048x64 .f32) (b : Vec F S1x2048 .f32) :
    k0_pay21 zh ah c b = rowMin (pieceDist zh ah c b) := rfl

/-- This value of the body is the least distances in a piece. -/
theorem pay23 (zh : FVec F S256x64 .f32) (ah : FVec F S256x1 .f32) (c : Vec F S2048x64 .f32) (b : Vec F S1x2048 .f32) :
    k0_pay23 zh ah c b = rowMin (pieceDist zh ah c b) := rfl

/-- This value of the body is distances from a piece. -/
theorem pay25 (zh : FVec F S256x64 .f32) (ah : FVec F S256x1 .f32) (c : Vec F S2048x64 .f32) (b : Vec F S1x2048 .f32) :
    k0_pay25 zh ah (k0_pay24 c) (constant S256x2048 .f32 0x00000000#32) b = pieceDist zh ah c b := rfl

/-- This value of the body is the least distances over the four pieces. -/
theorem pay26 (zh : FVec F S256x64 .f32) (ah : FVec F S256x1 .f32) (m m' m'' : FVec F S256x1 .f32) (c : Vec F S2048x64 .f32) (b : Vec F S1x2048 .f32) :
    k0_pay26 zh ah m m' m'' (k0_pay24 c) (constant S256x2048 .f32 0x00000000#32) b = minimumf (minimumf m m') (minimumf m'' (rowMin (pieceDist zh ah c b))) := rfl

/-- This value of the body is the picked columns of the first two pieces. -/
theorem pay27 (d d' : FVec F S256x2048 .f32) (m : FVec F S256x1 .f32) :
    k0_pay27 d d' m = minimumf (minimumf (broadcast S256x1 (Scalar.ofBits .f32 0x46000000#32)) (piecePick d m 0x00000000#32)) (piecePick d' m 0x45000000#32) := rfl

/-- This value of the body is the picked columns after the last two pieces. -/
theorem pay30 (d d' : FVec F S256x2048 .f32) (m : FVec F S256x1 .f32) (x : FVec F S256x1 .f32) :
    k0_pay30 d' m x (k0_pay28 d m) (FloatOps.ofBits .f32 0x46000000#32) k0_pay29 = minimumf (minimumf x (piecePick d m 0x45800000#32)) (piecePick d' m 0x45C00000#32) := rfl

/-- This value of the body is a sum of squares. -/
theorem pay31 (m : FVec F S256x1 .f32) :
    k0_pay31 m = sumSq m := rfl

/-- This value of the body is the picked columns of the first piece. -/
theorem pay32 (d : FVec F S256x2048 .f32) (m : FVec F S256x1 .f32) :
    k0_pay32 d m = minimumf (broadcast S256x1 (Scalar.ofBits .f32 0x46000000#32)) (piecePick d m 0x00000000#32) := rfl

/-- This value of the body is the marked columns of a piece. -/
theorem pay33 (d : FVec F S256x2048 .f32) (m : FVec F S256x1 .f32) :
    k0_pay33 d m = markAt d m := rfl

/-- This value of the body is the picked numbers of both halves, as a row. -/
theorem pay34 (d d' d'' : FVec F S256x2048 .f32) (m p x : FVec F S256x1 .f32) :
    k0_pay34 d' d'' m p x (markAt d m) = fptosi 32 (transpose S1x512 [1, 0] (concatenate S512x1 0 [⟨S256x1, p⟩, ⟨S256x1,
      minimumf (minimumf (minimumf x (piecePick d m 0x45000000#32)) (piecePick d' m 0x45800000#32)) (piecePick d'' m 0x45C00000#32)⟩]
      concatenates_S256x1_S256x1_S512x1_d0) transposes_S512x1_p1_0_S1x512) := rfl

/-- This value of the body is the running sum with the squares of a block added. -/
theorem pay35 (m : FVec F S256x1 .f32) (l : F .f32) (s : Vec F S1x1 .f32) :
    k0_pay35 m l s = addf (shapeCast S1x1 s shapeCasts_S1x1_S1x1) (broadcast S1x1 (Scalar.addf l (sumSq m))) := rfl

end Cert.Proof.Whole

end
-- ==== Proof.WholeSet.lean ====
/-
  The row-gathering call inside the whole program, one task. Vector subcore `(c, s)` fetches its 2048 row numbers and then, sixteen times,
  gathers 128 rows of the padded table into one of four row buffers and copies that buffer to its place in the
  result. What it leaves there is stated exactly: row `r` of the result is the table's row numbered by `idx r`.
  Everything is generic in the reading `F` of the floats, since the task only moves them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch reads it -/

/-- The labels of the program with its calls. -/
abbrev ΛP : Labels := Pipeline.Sig Λ₀ (Fin 1) fun p => (pcfgs (F := F) p).Adm
/-- The SparseCore part of the program. -/
abbrev K : SparseCore.Cfg τ sig (ΛP (F := F)) 1 := sc (F := F)
/-- What each call runs. -/
abbrev D [FloatOps F] : Defs nD τ sig (Elt F) (ΛP (F := F)) := Pipeline.defs pcfgs defs₀
/-- No loop of the program needs a measure. -/
abbrev 𝒱₀ : Variants := Variants.none
/-- No loop of the program needs a measure, as the launch asks for it. -/
abbrev 𝒱 : Variants := 𝒱₀.lift
/-- The measure at the start. -/
abbrev v₀ : 𝒱.V := Sum.inl none

/-- The launch semaphores differ from one another and outlive the calls. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' accounts. -/
abbrev UH : Type := URounds (GSem nD τ sig) ℕ
/-- The launch's accounts: the handshakes of the row-gathering call, the staging transfers of the distance call, and
    the row-gathering tasks' own transfers. -/
abbrev UP : Type := URounds (GSem nD τ sig) Unit
/-- All the accounts of the launch. -/
abbrev UU : Type := UH × (UP × Counters)

local notation "𝕄" => MT nD τ sig (HIx 1) (Elt F) ℕ UU ℕ

/-- Where the handshakes' accounts live among all. -/
abbrev EH : Emb UH (MT nD τ sig (HIx 1) (Elt F) ℕ UU ℕ) := embL

/-! ## The arrays and the scratch -/

/-- Where the row numbers lie. -/
abbrev iLoc (d : Dev nD) : Loc nD τ sig := (SparseCore.T d).loc main_v9
/-- Where the padded table lies. -/
abbrev xLoc (d : Dev nD) : Loc nD τ sig := (SparseCore.T d).loc main_v8
/-- Where the gathered rows lie. -/
abbrev oLoc (d : Dev nD) : Loc nD τ sig := (SparseCore.T d).loc main_v10

local notation "iV" => (Memref.whole main_v9_scv : Memref sig Kind.scVector Space.hbm S65536 EltTy.i32)
local notation "xV" => (Memref.whole main_v8_scv : Memref sig Kind.scVector Space.hbm S8192x128 EltTy.f32)
local notation "oV" => (Memref.whole main_v10_scv : Memref sig Kind.scVector Space.hbm S65536x128 EltTy.f32)
local notation "sV" => (Memref.whole cc1_scratch0 : Memref sig Kind.scVector Space.vmem S2048 EltTy.i32)
local notation "aV" => (Memref.whole cc1_scratch1 : Memref sig Kind.scVector Space.vmem S128x128 EltTy.f32)
local notation "bV" => (Memref.whole cc1_scratch2 : Memref sig Kind.scVector Space.vmem S128x128 EltTy.f32)
local notation "cV" => (Memref.whole cc1_scratch3 : Memref sig Kind.scVector Space.vmem S128x128 EltTy.f32)
local notation "eV" => (Memref.whole cc1_scratch4 : Memref sig Kind.scVector Space.vmem S128x128 EltTy.f32)

/-- The core and the subcore a task runs on. -/
abbrev cr (L : grid1.Coords) : Fin τ.nSC := (L 0).castLE hcore1
/-- The subcore a task runs on. -/
abbrev sr (L : grid1.Coords) : Fin τ.nSub := (L 1).castLE hsub1
/-- The thread of a task. -/
abbrev tl (d : Dev nD) (L : grid1.Coords) : Thread nD τ := V d (cr L) (sr L)

/-- The first row a task handles. -/
def base (L : grid1.Coords) : ℕ := 4096 * (L 1).val + 2048 * (L 0).val

/-- A task's 2048 rows lie within the result. -/
theorem base_le (L : grid1.Coords) : base L + 2048 ≤ 65536 := by
  have h0 : (L 0).val < 2 := (L 0).isLt
  have h1 : (L 1).val < 16 := (L 1).isLt
  unfold base; omega

/-- The task's run of `idx`, as a rectangle of it and as the task addresses it. -/
abbrev iRect (L : grid1.Coords) : Rect S65536 := Rect.unit (s := S65536) (k1_off1 L) S2048.size (k1_off1_inb L)
/-- The task's run of the row numbers, as the task addresses it. -/
abbrev iMem (L : grid1.Coords) : Memref sig .scVector .hbm S2048 .i32 := (iV).slice (iRect L) (fun _ => rfl)
/-- Chunk `k` of the fetched row numbers. -/
theorem sMem_inb (k : Fin 16) : ∀ a, (![128 * k.val] : Fin 1 → Nat) a + S128.size a ≤ S2048.size a := by
  revert k; decide
/-- Chunk `k` of the fetched row numbers, as a rectangle. -/
abbrev sRect (k : Fin 16) : Rect S2048 := Rect.unit (s := S2048) ![128 * k.val] S128.size (sMem_inb k)
/-- Chunk `k` of the fetched row numbers, as the task addresses it. -/
abbrev sMem (k : Fin 16) : Memref sig .scVector .vmem S128 .i32 := (sV).slice (sRect k) (fun _ => rfl)
/-- Chunk `k` of the task's rows of the result. -/
abbrev oRect (L : grid1.Coords) (k : Fin 16) : Rect S65536x128 :=
  Rect.unit (s := S65536x128) (k1_off2 L (BitVec.ofNat 32 (128 * k.val))) S128x128.size (k1_off2_inb L k)
/-- Chunk `k` of the task's rows of the result, as the task addresses it. -/
abbrev oMem (L : grid1.Coords) (k : Fin 16) : Memref sig .scVector .hbm S128x128 .f32 := (oV).slice (oRect L k) (fun _ => rfl)

/-! ## Which elements each part is -/

/-- The places of a task's run of the row numbers. -/
abbrev iSet (L : grid1.Coords) : Finset S65536.Idx := (iMem L).view.set
/-- The places of chunk `k` of a task's rows of the result. -/
abbrev oSet (L : grid1.Coords) (k : Fin 16) : Finset S65536x128.Idx := (oMem L k).view.set
/-- The places of chunk `k` of the fetched row numbers. -/
abbrev sSet (k : Fin 16) : Finset S2048.Idx := (sMem k).view.set

/-- A task's row numbers are the 2048 from its first row on. -/
theorem mem_iSet (L : grid1.Coords) (j : S65536.Idx) :
    j ∈ iSet L ↔ base L ≤ (j 0).val ∧ (j 0).val < base L + 2048 := by
  change j ∈ ((View.whole (main_v9_scv : Ref sig .scVector)).slice (iRect L)).set ↔ _
  rw [View.set_slice_whole, Rect.mem_set_unit, k1_off1_eq]
  simp only [base]
  exact Fin.forall_fin_one

/-- A chunk of a task's rows is 128 whole rows of the result. -/
theorem mem_oSet (L : grid1.Coords) (k : Fin 16) (j : S65536x128.Idx) :
    j ∈ oSet L k ↔ base L + 128 * k.val ≤ (j 0).val ∧ (j 0).val < base L + 128 * k.val + 128 := by
  change j ∈ ((View.whole (main_v10_scv : Ref sig .scVector)).slice (oRect L k)).set ↔ _
  rw [View.set_slice_whole, Rect.mem_set_unit, k1_off2_eq]
  have h1 : (j 1).val < 128 := (j 1).isLt
  refine Fin.forall_fin_two.trans ⟨fun h => h.1, fun h => ⟨h, Nat.zero_le _, h1⟩⟩

/-- A chunk of the fetched row numbers is 128 of them in a row. -/
theorem mem_sSet (k : Fin 16) (j : S2048.Idx) :
    j ∈ sSet k ↔ 128 * k.val ≤ (j 0).val ∧ (j 0).val < 128 * k.val + 128 := by
  change j ∈ ((View.whole (cc1_scratch0 : Ref sig .scVector)).slice (sRect k)).set ↔ _
  rw [View.set_slice_whole, Rect.mem_set_unit]
  exact Fin.forall_fin_one

/-! ## What is left in the result -/

/-- The row of the table that a row number names (an out-of-range number is never met). -/
def rowAt (w : BitVec 32) : Fin 8192 := ⟨w.toNat % 8192, Nat.mod_lt _ (by decide)⟩

/-- The table's element at a row and a column. -/
def cellAt (r : Fin 8192) (c : Fin 128) : S8192x128.Idx := fun | 0 => r | 1 => c

/-- A place of the table is known by its row and its column. -/
theorem eq_cellAt (y : S8192x128.Idx) (r : Fin 8192) (c : Fin 128) (h0 : (y 0).val = r.val) (h1 : (y 1).val = c.val) : y = cellAt r c :=
  funext fun a => match a with
    | 0 => Fin.ext h0
    | 1 => Fin.ext h1

/-- The place of a result row's number in `idx`. -/
def rowIx (j : S65536x128.Idx) : S65536.Idx := fun | 0 => j 0

/-- The gathered rows: row `r` is the table's row numbered by `idx r`. -/
def rowsOf (fi : S65536.Idx → Elt F .i32) (fx : S8192x128.Idx → Elt F .f32) : S65536x128.Idx → Elt F .f32 :=
  fun j => fx (cellAt (rowAt (fi (rowIx j))) (j 1))

/-! ## The task's own cells and buffers -/

section Tile

variable (d : Dev nD) (L : grid1.Coords)

/-- One of a task's transfer semaphores. -/
abbrev cell (d : Dev nD) (L : grid1.Coords) (s : DmaSem sig) : GSem nD τ sig := (tl d L, .dma s)

/-- Different transfer semaphores are different cells. -/
theorem cell_inj : Function.Injective (cell d L) := fun a b h => by
  have h2 : (SemLoc.dma a : SemLoc sig) = SemLoc.dma b := congrArg Prod.snd h
  exact SemLoc.dma.inj h2

/-- The nine transfer semaphores a task uses. -/
abbrev sems : List (DmaSem sig) := [cc1_scratch5.sem, cc1_scratch6.sem, cc1_scratch7.sem, cc1_scratch8.sem, cc1_scratch9.sem, cc1_scratch10.sem,
  cc1_scratch11.sem, cc1_scratch12.sem, cc1_scoped0.sem]

/-- The nine transfer semaphores a task uses are among its own: they are them, at zero, and the rest. -/
theorem ownSems0_V :
    (ownSems0 (tl d L) : sProp 𝕄)
      = iprop((semVal (cell d L cc1_scratch5.sem) 0 ∗ semVal (cell d L cc1_scratch6.sem) 0 ∗ semVal (cell d L cc1_scratch7.sem) 0
          ∗ semVal (cell d L cc1_scratch8.sem) 0 ∗ semVal (cell d L cc1_scratch9.sem) 0 ∗ semVal (cell d L cc1_scratch10.sem) 0
          ∗ semVal (cell d L cc1_scratch11.sem) 0 ∗ semVal (cell d L cc1_scratch12.sem) 0 ∗ semVal (cell d L cc1_scoped0.sem) 0)
          ∗ bigSep (ownCells (tl d L) \ sems.toFinset.image (cell d L)) fun g => semVal g 0) := by
  unfold SparseCore.Cfg.ownSems0
  rw [SparseCore.bigSep_sdiff_split' (t := sems.toFinset.image (cell d L)) (fun g hg => by
      obtain ⟨s, -, rfl⟩ := Finset.mem_image.mp hg
      exact mem_ownCells.mpr ⟨rfl, (show ∀ s : DmaSem sig, (SemLoc.dma s : SemLoc sig).isScoped .scVector = true by decide) s⟩),
    BI.bigSep_image_of_injOn (cell_inj d L).injOn, BI.bigSep_eq_bigSepL sems (by decide)]
  rfl

/-- The references of the five scratch buffers. -/
abbrev bufs : List (Ref sig .scVector) := [cc1_scratch0, cc1_scratch1, cc1_scratch2, cc1_scratch3, cc1_scratch4]
/-- A scratch buffer, as one of the device's. -/
abbrev atTile (L : grid1.Coords) (b : Ref sig .scVector) : DevRef τ sig := (Proc.scVector (cr L) (sr L)).devRef b

/-- The five scratch buffers are among the subcore's own: they are them, at some contents, and the rest. -/
theorem ownBufs_V :
    (ownBufs (tl d L) : sProp 𝕄)
      = iprop(((∃ f, (sV).view.loc (tl d L) ↦{fullShare} f) ∗ (∃ f, (aV).view.loc (tl d L) ↦{fullShare} f)
          ∗ (∃ f, (bV).view.loc (tl d L) ↦{fullShare} f) ∗ (∃ f, (cV).view.loc (tl d L) ↦{fullShare} f)
          ∗ (∃ f, (eV).view.loc (tl d L) ↦{fullShare} f))
          ∗ bigSep (ownRefs (τ := τ) (.scVector (cr L) (sr L)) \ bufs.toFinset.image (atTile L))
              fun b => iprop(∃ f, ((d, b) : Loc nD τ sig) ↦{fullShare} f)) := by
  unfold SparseCore.Cfg.ownBufs
  refine (SparseCore.bigSep_sdiff_split' (t := bufs.toFinset.image (atTile L)) (fun b hb => ?_)).trans ?_
  · obtain ⟨r, hr, rfl⟩ := Finset.mem_image.mp hb
    refine SparseCore.Cfg.mem_ownRefs_of_owner ?_
    simp only [bufs, List.mem_toFinset, List.mem_cons, List.not_mem_nil, or_false] at hr
    rcases hr with rfl | rfl | rfl | rfl | rfl <;> rfl
  rw [BI.bigSep_image_of_injOn (f := atTile L) (fun _ _ _ _ h => Proc.devRef_injective _ h), BI.bigSep_eq_bigSepL bufs (by decide)]
  rfl

/-! ## The operands as the task spells them -/

/-- A chunk of the result, its first row written as a word offset from the task's own. -/
abbrev oAt (L : grid1.Coords) (w : BitVec 32) (h : ∀ a, (k1_off2 L w) a + S128x128.size a ≤ S65536x128.size a) :
    Memref sig .scVector .hbm S128x128 .f32 := (oV).slice (Rect.unit (s := S65536x128) (k1_off2 L w) S128x128.size h) (fun _ => rfl)
/-- Owning a chunk of the result, its first row written as a word offset. -/
abbrev oPts (d : Dev nD) (L : grid1.Coords) (w : BitVec 32) (h : ∀ a, (k1_off2 L w) a + S128x128.size a ≤ S65536x128.size a)
    (f : Buf (Elt F) (oLoc d)) : sProp 𝕄 :=
  (oAt L w h).view.loc (tl d L) ↦[(oAt L w h).view.set]{fullShare} f

/-- The task's rows of the result, chunk by chunk. -/
abbrev oChunks (f : Buf (Elt F) (oLoc d)) : sProp 𝕄 :=
  bigSep Finset.univ fun k : Fin 16 => oLoc d ↦[(oMem L k).view.set]{fullShare} f

/-- Owning a task's rows of the result is owning its sixteen chunks one by one. -/
theorem oChunks_eq (f : Buf (Elt F) (oLoc d)) :
    oChunks d L f = iprop(oPts d L 0#32 (k1_off2_inb L 0) f ∗ oPts d L 128#32 (k1_off2_inb L 1) f ∗ oPts d L 256#32 (k1_off2_inb L 2) f
      ∗ oPts d L 384#32 (k1_off2_inb L 3) f ∗ oPts d L 512#32 (k1_off2_inb L 4) f ∗ oPts d L 640#32 (k1_off2_inb L 5) f
      ∗ oPts d L 768#32 (k1_off2_inb L 6) f ∗ oPts d L 896#32 (k1_off2_inb L 7) f ∗ oPts d L 1024#32 (k1_off2_inb L 8) f
      ∗ oPts d L 1152#32 (k1_off2_inb L 9) f ∗ oPts d L 1280#32 (k1_off2_inb L 10) f ∗ oPts d L 1408#32 (k1_off2_inb L 11) f
      ∗ oPts d L 1536#32 (k1_off2_inb L 12) f ∗ oPts d L 1664#32 (k1_off2_inb L 13) f ∗ oPts d L 1792#32 (k1_off2_inb L 14) f
      ∗ oPts d L 1920#32 (k1_off2_inb L 15) f) := by
  rw [oChunks, BI.bigSep_univ_eq_bigSepL [0, 1, 2, 3, 4, 5, 6, 7, 8, 9, 10, 11, 12, 13, 14, 15] (by decide) (by decide)]
  rfl

/-- The whole table, as the task's streams address it. -/
abbrev xAll : Memref sig .scVector .hbm S8192x128 .f32 :=
  (xV).slice (Rect.unit (s := S8192x128) ![0, 0] S8192x128.size inb_S8192x128_S8192x128_0_0) (fun _ => rfl)
/-- The table as the streams address it is all of the table. -/
theorem set_xAll : (xAll).view.set = Finset.univ := by
  refine Finset.eq_univ_iff_forall.mpr fun j => ?_
  change j ∈ ((View.whole (main_v8_scv : Ref sig .scVector)).slice (Rect.unit (s := S8192x128) ![0, 0] S8192x128.size inb_S8192x128_S8192x128_0_0)).set
  rw [View.set_slice_whole, Rect.mem_set_unit]
  exact Fin.forall_fin_two.mpr ⟨⟨Nat.zero_le _, (Nat.zero_add _).symm ▸ (j 0).isLt⟩, ⟨Nat.zero_le _, (Nat.zero_add _).symm ▸ (j 1).isLt⟩⟩

/-- A task's share of the table, dealt to its four streams' semaphores. -/
abbrev xPts (d : Dev nD) (L : grid1.Coords) (q : PosShare TreeShare) (f : Buf (Elt F) (xLoc d)) : sProp 𝕄 :=
  (xAll).view.loc (tl d L) ↦[(xAll).view.set]{q} f
/-- A task's share of the table is one share for each of four streams, and a rest. -/
theorem xToks_eq (q : PosShare TreeShare) (f : Buf (Elt F) (xLoc d)) :
    (xLoc d ↦{q} f : sProp 𝕄) = iprop((xLoc d ↦{Transfers.shareDrop q 4} f) ∗ xPts d L (Transfers.shareTok q 4 0) f
      ∗ xPts d L (Transfers.shareTok q 4 1) f ∗ xPts d L (Transfers.shareTok q 4 2) f ∗ xPts d L (Transfers.shareTok q 4 3) f) := by
  have h := Transfers.pointsTo_toks (Name := ℕ) (U := UU) (Lvl := ℕ) (Ix := HIx 1) (ℓ := xLoc d) (S := Finset.univ) (f := f) q 4
  rw [BI.bigSep_univ_eq_bigSepL [0, 1, 2, 3] (by decide) (by decide)] at h
  rw [show (xLoc d ↦{q} f : sProp 𝕄) = _ from BI.Entails.antisymm h.1 h.2]
  unfold xPts; rw [set_xAll]
  rfl

/-- A chunk of the fetched row numbers, its first place written out. -/
abbrev sAt (n : ℕ) (h : ∀ a, (![n] : Fin 1 → Nat) a + S128.size a ≤ S2048.size a) : Memref sig .scVector .vmem S128 .i32 :=
  (sV).slice (Rect.unit (s := S2048) ![n] S128.size h) (fun _ => rfl)
/-- Owning a chunk of the fetched row numbers. -/
abbrev sPts (d : Dev nD) (L : grid1.Coords) (n : ℕ) (h : ∀ a, (![n] : Fin 1 → Nat) a + S128.size a ≤ S2048.size a)
    (f : Buf (Elt F) ((tl d L).loc cc1_scratch0)) : sProp 𝕄 :=
  (sAt n h).view.loc (tl d L) ↦[(sAt n h).view.set]{fullShare} f

/-- The chunks of the fetched row numbers do not overlap. -/
theorem sChunks_disjoint : ∀ i ∈ (Finset.univ : Finset (Fin 16)), ∀ j ∈ (Finset.univ : Finset (Fin 16)), i ≠ j →
    Disjoint (sSet i) (sSet j) := fun i _ j _ h => Finset.disjoint_left.mpr fun x hi hj => by
  have hi := (mem_sSet i x).mp hi
  have hj := (mem_sSet j x).mp hj
  exact h (Fin.ext (by omega))
/-- The chunks of the fetched row numbers are all of them. -/
theorem sChunks_cover : (Finset.univ : Finset (Fin 16)).biUnion sSet = Finset.univ :=
  Finset.eq_univ_iff_forall.mpr fun x => by
    have hx : (x 0).val < 2048 := (x 0).isLt
    exact Finset.mem_biUnion.mpr ⟨⟨(x 0).val / 128, by omega⟩, Finset.mem_univ _, (mem_sSet ⟨(x 0).val / 128, by omega⟩ x).mpr (by constructor <;> simp only <;> omega)⟩

/-- The fetched row numbers, held chunk by chunk. -/
theorem sChunks_eq (f : Buf (Elt F) ((tl d L).loc cc1_scratch0)) :
    ((sV).view.loc (tl d L) ↦{fullShare} f : sProp 𝕄)
      = iprop(sPts d L 0 (sMem_inb 0) f ∗ sPts d L 128 (sMem_inb 1) f ∗ sPts d L 256 (sMem_inb 2) f ∗ sPts d L 384 (sMem_inb 3) f
        ∗ sPts d L 512 (sMem_inb 4) f ∗ sPts d L 640 (sMem_inb 5) f ∗ sPts d L 768 (sMem_inb 6) f ∗ sPts d L 896 (sMem_inb 7) f
        ∗ sPts d L 1024 (sMem_inb 8) f ∗ sPts d L 1152 (sMem_inb 9) f ∗ sPts d L 1280 (sMem_inb 10) f ∗ sPts d L 1408 (sMem_inb 11) f
        ∗ sPts d L 1536 (sMem_inb 12) f ∗ sPts d L 1664 (sMem_inb 13) f ∗ sPts d L 1792 (sMem_inb 14) f ∗ sPts d L 1920 (sMem_inb 15) f) := by
  have h := pointsTo_biUnion (Name := ℕ) (U := UU) (Lvl := ℕ) (Ix := HIx 1) (q := fullShare) (f := f) Finset.univ
    (ℓ := (tl d L).loc cc1_scratch0) sSet sChunks_disjoint
  rw [sChunks_cover, BI.bigSep_univ_eq_bigSepL [0, 1, 2, 3, 4, 5, 6, 7, 8, 9, 10, 11, 12, 13, 14, 15] (by decide) (by decide)] at h
  exact h

/-- The row numbers a task fetches: its own 2048 of `idx`. -/
def listOf (L : grid1.Coords) (fi : Buf (Elt F) (iLoc d)) : Buf (Elt F) ((tl d L).loc cc1_scratch0) :=
  (iMem L).view.read (Elt F) fi

/-- A fetched row number is the one at the same place of the task's run. -/
theorem listOf_apply (fi : Buf (Elt F) (iLoc d)) (j : S2048.Idx) :
    listOf d L fi j = fi (fun | 0 => ⟨base L + (j 0).val, (by have := base_le L; have h : (j 0).val < 2048 := (j 0).isLt; show _ < 65536; omega)⟩) := by
  unfold listOf
  refine (View.read_apply _ _).trans ((cast_eq _ _).trans (congrArg fi (funext fun a => ?_)))
  match a with
  | 0 =>
    refine Fin.ext ?_
    change ((iRect L).emb j 0).val = base L + (j 0).val
    rw [Rect.emb_apply]
    change (k1_off1 L) 0 + 1 * (j 0).val = _
    rw [k1_off1_eq, Nat.one_mul]; rfl

/-! ## What one stream and one copy leave -/

/-- The rows a stream delivers for the chunk of the list from place `n` on. -/
def stream (fx : Buf (Elt F) (xLoc d)) (fl : Buf (Elt F) ((tl d L).loc cc1_scratch0))
    (n : ℕ) (h : ∀ a, (![n] : Fin 1 → Nat) a + S128.size a ≤ S2048.size a) (hin : ∀ x, ((sAt n h).view.read (Elt F) fl x).toNat < 8192) :
    S128x128.Idx → Elt F .f32 :=
  SparseCore.gatherPayload gathers_S8192x128_S128x128 ((xAll).view.read (Elt F) fx)
    (SparseCore.rows (si := S128) (o := S128x128.size (gathers_S8192x128_S128x128).axis') (z := S8192x128.size (gathers_S8192x128_S128x128).axis) ((sAt n h).view.read (Elt F) fl) rfl hin)

/-- A stream delivers the rows of the table that its chunk of the list names. -/
theorem stream_apply (fi : Buf (Elt F) (iLoc d)) (fx : Buf (Elt F) (xLoc d)) (n : ℕ)
    (h : ∀ a, (![n] : Fin 1 → Nat) a + S128.size a ≤ S2048.size a)
    (hin : ∀ x, ((sAt n h).view.read (Elt F) (listOf d L fi) x).toNat < 8192) (x : S128x128.Idx) (j : S65536x128.Idx)
    (h0 : (j 0).val = base L + n + (x 0).val) (h1 : (j 1).val = (x 1).val) :
    stream d L fx (listOf d L fi) n h hin x = rowsOf fi fx j := by
  unfold stream SparseCore.gatherPayload rowsOf
  refine (View.read_apply _ _).trans ((cast_eq _ _).trans (congrArg fx (eq_cellAt _ _ _ ?_ ?_)))
  · refine (Nat.zero_add _).trans ((Nat.one_mul _).trans ?_)
    refine (congrArg Fin.val (Shape.Gathers.idx_axis gathers_S8192x128_S128x128 _ x)).trans ?_
    have hy : ∀ k : Fin S128.numel, ((S128.rowMajor.symm k) 0).val = k.val := fun k => by
      have e := Shape.rowMajor_val_one (d := S128.size) (S128.rowMajor.symm k)
      rw [← e]; exact congrArg Fin.val (S128.rowMajor.apply_symm_apply k)
    have hr : ∀ y, (sAt n h).view.read (Elt F) (listOf d L fi) y = fi (rowIx j) ∨ (y 0).val ≠ (x 0).val := fun y => by
      by_cases e : (y 0).val = (x 0).val
      · refine .inl ((View.read_apply _ _).trans ((cast_eq _ _).trans ((listOf_apply d L fi _).trans (congrArg fi (funext fun a => ?_)))))
        match a with
        | 0 => refine Fin.ext ?_; show base L + (n + 1 * (y 0).val) = (j 0).val; omega
      · exact .inr e
    refine ((congrArg BitVec.toNat ((hr _).resolve_right (fun e => e (hy _)))).trans ?_)
    have hlt := hin (S128.rowMajor.symm ((x 0).cast rfl))
    have hlt := (congrArg (fun w : BitVec 32 => w.toNat < 8192) ((hr _).resolve_right (fun e => e (hy _)))).mp hlt
    exact (Nat.mod_eq_of_lt hlt).symm
  · refine (Nat.zero_add _).trans ((Nat.one_mul _).trans ?_)
    exact (Shape.Gathers.idx_of_ne gathers_S8192x128_S128x128 _ x 1 (by decide)).trans h1.symm

/-- A whole buffer read after writes, the last of them to all of it, reads that last write. -/
theorem read_last {κ : Kind} {sp : Space} {s : Shape} {e : EltTy} (v : View sig κ sp s e) (f : v.ty.Contents (Elt F))
    (w : s.Idx → Elt F e) (T : List (View.Piece (Elt F) s e)) :
    v.read (Elt F) (v.writes (Elt F) f (⟨Rect.whole s, w⟩ :: T)) = w :=
  funext fun x => (congrArg _ (Rect.emb_whole_apply s x).symm).trans (View.read_writes_cons_emb v f (Rect.whole s) w T x)

/-- A chunk of the result after the copy of the streamed rows into it holds the gathered rows. -/
theorem chunk_done (fi : Buf (Elt F) (iLoc d)) (fx : Buf (Elt F) (xLoc d)) (k : Fin 16) (fo : Buf (Elt F) (oLoc d))
    (hin : ∀ x, ((sAt (128 * k.val) (sMem_inb k)).view.read (Elt F) (listOf d L fi) x).toNat < 8192)
    (v : View sig .scVector .vmem S128x128 .f32) (f : v.ty.Contents (Elt F)) (T : List (View.Piece (Elt F) S128x128 .f32)) :
    (oLoc d ↦[oSet L k]{fullShare} ((oMem L k).view.writes (Elt F) fo [⟨Rect.whole S128x128,
        v.read (Elt F) (v.writes (Elt F) f (⟨Rect.whole S128x128, stream d L fx (listOf d L fi) (128 * k.val) (sMem_inb k) hin⟩ :: T))⟩]) : sProp 𝕄)
      = oLoc d ↦[oSet L k]{fullShare} rowsOf fi fx := by
  rw [read_last]
  refine pointsTo_congr fun j hj => ?_
  obtain ⟨x, -, rfl⟩ := Finset.mem_map.mp hj
  refine (cast_eq _ _).symm.trans ((View.read_apply _ _).symm.trans ((congrFun (read_last (F := F) (oMem L k).view fo _ []) x).trans
    (stream_apply d L fi fx _ _ hin x _ ?_ ?_)))
  · change (k1_off2 L (BitVec.ofNat 32 (128 * k.val))) 0 + 1 * (x 0).val = _
    rw [k1_off2_eq, Nat.one_mul]; rfl
  · change (k1_off2 L (BitVec.ofNat 32 (128 * k.val))) 1 + 1 * (x 1).val = _
    rw [k1_off2_eq, Nat.one_mul]; exact Nat.zero_add _

end Tile

end Cert.Proof.Whole

end
-- ==== Proof.DistBody.lean ====
/-
  The distance call, one grid point: from the six staging buffers held whole, the body runs to its return. It leaves
  the four inputs' buffers as they were, the picked row numbers in the first result's, and the running sum in the
  second's: started over at the first point, scaled at the last.
-/
module

public import proofs.«01_k».proof.Proof.DistVal
public import proofs.«01_k».proof.Proof.WholeSet
public import Idealize.ShloMosaic.Lib.Tactic.Stretches
public import Idealize.ShloMosaic.Lib.VecWindow

@[expose] public section

noncomputable section

namespace Cert.Proof.Whole

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-- Contents of memref `M`'s buffer on core `c`. -/
abbrev Bf (c : Dev nD) {sp : Space} {S : Shape} {e : EltTy} (M : Memref sig .tc sp S e) : Type := Buf (Elt F) (M.view.loc (c : Thread nD τ))

/-- That buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the running sum stands at when the body adds to it: nought at the first point, what it was at any other. -/
def startSum (i : grid0.Coords) (s : Vec F S1x1 .f32) : Vec F S1x1 .f32 :=
  if (i 0).val = 0 then broadcast S1x1 (Scalar.ofBits .f32 0x00000000#32) else s

/-- The running sum as the body leaves it: the block's squares added, and the sum scaled at the last point. -/
def stepSum (i : grid0.Coords) (d : Fin 2 → Fin 4 → FVec F S256x2048 .f32) (s : Vec F S1x1 .f32) : Vec F S1x1 .f32 :=
  if (i 0).val = 127 then scaled (addBlock d (startSum i s)) else addBlock d (startSum i s)

/-- The body's test for its first point. -/
theorem isFirst (i : grid0.Coords) :
    Scalar.cmpi .ne (Scalar.extui (Scalar.cmpi .eq (BitVec.ofNat 32 (i 0).val) 0#32) : BitVec 32) 0#32 = 1#1 ↔ (i 0).val = 0 := by
  have h : ∀ k : Fin 128, Scalar.cmpi .ne (Scalar.extui (Scalar.cmpi .eq (BitVec.ofNat 32 k.val) 0#32) : BitVec 32) 0#32 = 1#1 ↔ k.val = 0 := by
    decide
  exact h (i 0)

/-- The body's test for its last point. -/
theorem isLast (i : grid0.Coords) :
    Scalar.cmpi .ne (Scalar.extui (Scalar.cmpi .eq (BitVec.ofNat 32 (i 0).val) 127#32) : BitVec 32) 0#32 = 1#1 ↔ (i 0).val = 127 := by
  have h : ∀ k : Fin 128, Scalar.cmpi .ne (Scalar.extui (Scalar.cmpi .eq (BitVec.ofNat 32 k.val) 127#32) : BitVec 32) 0#32 = 1#1 ↔ k.val = 127 := by
    decide
  exact h (i 0)

/-- One grid point of the distance call. -/
theorem dist_run (c : Dev nD) (i : grid0.Coords)
    (M1 : Memref sig .tc .vmem S512x1 .f32) (h1 : M1.IsWhole) (M2 : Memref sig .tc .vmem S1x8192 .f32) (h2 : M2.IsWhole)
    (M3 : Memref sig .tc .vmem S512x64 .f32) (h3 : M3.IsWhole) (M4 : Memref sig .tc .vmem S8192x64 .f32) (h4 : M4.IsWhole)
    (M5 : Memref sig .tc .vmem S1x512 .i32) (h5 : M5.IsWhole) (M6 : Memref sig .tc .vmem S1x1 .f32) (h6 : M6.IsWhole)
    (f1 : Bf (F := F) c M1) (f2 : Bf (F := F) c M2) (f3 : Bf (F := F) c M3) (f4 : Bf (F := F) c M4) (f5 : Bf (F := F) c M5) (f6 : Bf (F := F) c M6)
    (E : Set ℕ) (Q : PUnit → sProp 𝕄) :
    iprop(pt c M1 f1 ∗ pt c M2 f2 ∗ pt c M3 f3 ∗ pt c M4 f4 ∗ pt c M5 f5 ∗ pt c M6 f6
      ∗ (iprop(pt c M1 f1 ∗ pt c M2 f2 ∗ pt c M3 f3 ∗ pt c M4 f4
          ∗ (∃ f, ⌜M5.view.read (Elt F) f = pickBlock (blockDist (M1.view.read (Elt F) f1) (M2.view.read (Elt F) f2) (M3.view.read (Elt F) f3) (M4.view.read (Elt F) f4))⌝ ∗ pt c M5 f)
          ∗ (∃ f, ⌜M6.view.read (Elt F) f = stepSum i (blockDist (M1.view.read (Elt F) f1) (M2.view.read (Elt F) f2) (M3.view.read (Elt F) f3) (M4.view.read (Elt F) f4)) (M6.view.read (Elt F) f6)⌝ ∗ pt c M6 f)) -∗ Q ⟨⟩))
      ⊢ wp frame (wpE (defs₀ (F := F)) Variants.none c none) E (cc0__dist_body i M1 h1 M2 h2 M3 h3 M4 h4 M5 h5 M6 h6) Q := by
  have hz : View.readAt (Elt F) M3.view (Rect.unit ![0, 0] S512x64.size inb_S512x64_S512x64_0_0).toLoadRect f3 = M3.view.read (Elt F) f3 := View.readAt_full ..
  have ha : View.readAt (Elt F) M1.view (Rect.unit ![0, 0] S512x1.size inb_S512x1_S512x1_0_0).toLoadRect f1 = M1.view.read (Elt F) f1 := View.readAt_full ..
  have hc0 : View.readAt (Elt F) M4.view (Rect.unit (s := S8192x64) ![0, 0] S2048x64.size inb_S8192x64_S2048x64_0_0).toLoadRect f4 = cbPiece (M4.view.read (Elt F) f4) 0 := rfl
  have hc1 : View.readAt (Elt F) M4.view (Rect.unit (s := S8192x64) ![2048, 0] S2048x64.size inb_S8192x64_S2048x64_2048_0).toLoadRect f4 = cbPiece (M4.view.read (Elt F) f4) 1 := rfl
  have hc2 : View.readAt (Elt F) M4.view (Rect.unit (s := S8192x64) ![4096, 0] S2048x64.size inb_S8192x64_S2048x64_4096_0).toLoadRect f4 = cbPiece (M4.view.read (Elt F) f4) 2 := rfl
  have hc3 : View.readAt (Elt F) M4.view (Rect.unit (s := S8192x64) ![6144, 0] S2048x64.size inb_S8192x64_S2048x64_6144_0).toLoadRect f4 = cbPiece (M4.view.read (Elt F) f4) 3 := rfl
  have hb0 : View.readAt (Elt F) M2.view (Rect.unit (s := S1x8192) ![0, 0] S1x2048.size inb_S1x8192_S1x2048_0_0).toLoadRect f2 = bbPiece (M2.view.read (Elt F) f2) 0 := rfl
  have hb1 : View.readAt (Elt F) M2.view (Rect.unit (s := S1x8192) ![0, 2048] S1x2048.size inb_S1x8192_S1x2048_0_2048).toLoadRect f2 = bbPiece (M2.view.read (Elt F) f2) 1 := rfl
  have hb2 : View.readAt (Elt F) M2.view (Rect.unit (s := S1x8192) ![0, 4096] S1x2048.size inb_S1x8192_S1x2048_0_4096).toLoadRect f2 = bbPiece (M2.view.read (Elt F) f2) 2 := rfl
  have hb3 : View.readAt (Elt F) M2.view (Rect.unit (s := S1x8192) ![0, 6144] S1x2048.size inb_S1x8192_S1x2048_0_6144).toLoadRect f2 = bbPiece (M2.view.read (Elt F) f2) 3 := rfl
  iintro ⟨H1, H2, H3, H4, H5, H6, Hk⟩
  sl_exec_parts!
  sl_step
  iapply Hk
  isplitl [H1]; · iexact H1
  isplitl [H2]; · iexact H2
  isplitl [H3]; · iexact H3
  isplitl [H4]; · iexact H4
  isplitl [H5]
  · iexists _
    isplitr; swap; (· iexact H5)
    ipureintro
    sl_open_run
    rewrite [View.read_writes_full]
    simp only [pay4, pay5, pay6, pay7, pay8, pay9, pay10, pay11, pay12, pay13, pay14, pay18, pay19, pay20, pay21, pay22, pay23, pay25, pay26,
      pay27, pay30, pay31, pay32, pay33, pay34, pay35]
    simp only [pickBlock, pickOf, leastOf, blockDist, halfDist]
  · iexists _
    isplitr; swap; (· iexact H6)
    ipureintro
    unfold stepSum startSum
    sl_open_run
    by_cases ha : (i 0).val = 0 <;> by_cases hb : (i 0).val = 127
    · omega
    · rewrite [dif_neg (mt (isLast i).mp hb), dif_pos ((isFirst i).mpr ha), if_neg hb, if_pos ha, View.read_writes_full, View.readAt_writes_full]
      simp only [pay4, pay5, pay6, pay7, pay8, pay9, pay10, pay11, pay12, pay13, pay14, pay18, pay19, pay20, pay21, pay22, pay23, pay25, pay26,
        pay27, pay30, pay31, pay32, pay33, pay34, pay35]
      simp only [addBlock, leastOf, blockDist, halfDist]
      rfl
    · rewrite [dif_pos ((isLast i).mpr hb), dif_neg (mt (isFirst i).mp ha), if_pos hb, if_neg ha, View.read_writes_full, View.readCov_full, View.readAt_full]
      simp only [pay4, pay5, pay6, pay7, pay8, pay9, pay10, pay11, pay12, pay13, pay14, pay18, pay19, pay20, pay21, pay22, pay23, pay25, pay26,
        pay27, pay30, pay31, pay32, pay33, pay34, pay35]
      simp only [addBlock, leastOf, blockDist, halfDist]
      rfl
    · rewrite [dif_neg (mt (isLast i).mp hb), dif_neg (mt (isFirst i).mp ha), if_neg hb, if_neg ha, View.read_writes_full, View.readAt_full]
      simp only [pay4, pay5, pay6, pay7, pay8, pay9, pay10, pay11, pay12, pay13, pay14, pay18, pay19, pay20, pay21, pay22, pay23, pay25, pay26,
        pay27, pay30, pay31, pay32, pay33, pay34, pay35]
      simp only [addBlock, leastOf, blockDist, halfDist]

end Cert.Proof.Whole

end
-- ==== Proof.DistRegion.lean ====
/-
  The distance call as one region of the program: what its staging buffers hold at every grid point, what the body
  makes of them, and the passage from every array at one valuation to every array at another that differs at the call's
  two results. The core enters it owing the SparseCore its later signals, and leaves owing the same.
-/
module

public import proofs.«01_k».proof.Proof.DistBody
public import proofs.«01_k».proof.Proof.Gen.KernelIdeal.Points
public import proofs.«01_k».proof.Proof.Gen.KernelIdeal.Launch
public import Idealize.ShloMosaic.Lib.Pipeline.RegionsLoop
public import Idealize.ShloMosaic.Lib.SparseCore.Quiescent

@[expose] public section

noncomputable section

namespace Cert.Proof.Whole

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- Window `w`'s block at point `t`: its array at the entry valuation, read through the block's view. -/
abbrev blk (c : Dev nD) (w : Fin 6) (t : Fin cfg0.N) : ((cfg0.win w).xblock (cfg0.grid.coords t)).Idx → Elt F (cfg0.win w).elt :=
  ((cfg0.win w).blk t).view.read (Elt F) (V c (Pipeline.arrRef spec0 w))

/-- The distances of point `t`'s rows to every codebook row, from the four blocks. -/
def distAt (c : Dev nD) (t : Fin cfg0.N) : Fin 2 → Fin 4 → FVec F S256x2048 .f32 :=
  blockDist (blk V c 0 t) (blk V c 1 t) (blk V c 2 t) (blk V c 3 t)

/-- The running sum after point `n`. -/
def accAt (c : Dev nD) : (n : ℕ) → n < cfg0.N → Vec F S1x1 .f32
  | 0, h => stepSum (grid0.coords ⟨0, h⟩) (distAt V c ⟨0, h⟩) (broadcast S1x1 (Scalar.ofBits .f32 0x00000000#32))
  | n + 1, h => stepSum (grid0.coords ⟨n + 1, h⟩) (distAt V c ⟨n + 1, h⟩) (accAt c n (Nat.lt_of_succ_lt h))

/-- The scoped buffers the call does not stage, held at something. -/
abbrev Φc (c : Dev nD) : sProp 𝕄 := Pipeline.scopedRest (Ix := HIx 1) (Name := ℕ) (U := UU) (Lvl := ℕ) (Val := Elt F) spec0 c

/-- The call's proof data from valuation `V`: an input's buffer stays at its block, the first result's is the picked row
    numbers, the second's the running sum; the core owes the SparseCore what it owes before its call, and has
    recorded no wait but those at no call. -/
def dat (c : Dev nD) : Dat τ (Elt F) (HIx 1) ℕ UU ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => pickBlock (distAt V c t)
    | ⟨5, _⟩ => accAt V c t.val t.isLt
  Φ _ := Φc c
  q _ := fullShare
  owed _ := (K (F := F)).Otc c 0
  recorded _ := {p | p.2 = none}

/-- The call takes no prefetched table, so there is one way to enter it. -/
abbrev adm : (p : Fin 1) → (pcfgs (F := F) p).Adm := fun p => (cfgs p).toPCfg_adm

/-- The proof data of the program's only such call. -/
def pdats : (p : Fin 1) → (c : Dev nD) → Dat τ (Elt F) (HIx 1) ℕ UU ℕ (Pipeline.pin (pcfgs (F := F)) adm p) c
  | ⟨0, _⟩ => fun c => dat V c

/-- Input 0 holds its block when a point begins. -/
theorem before_0 (c : Dev nD) (t : Fin cfg0.N) (d) : (dat V c).before 0 t d = blk V c 0 t :=
  (dat V c).before_in_eq_fetched 0 rfl (fun _ => rfl) (fun _ _ _ => rfl) (fun _ => rfl) t d

/-- Input 1 holds its block when a point begins. -/
theorem before_1 (c : Dev nD) (t : Fin cfg0.N) (d) : (dat V c).before 1 t d = blk V c 1 t :=
  (dat V c).before_in_eq_fetched 1 rfl (fun _ => rfl) (fun _ _ _ => rfl) (fun _ => rfl) t d

/-- Input 2 holds its block when a point begins. -/
theorem before_2 (c : Dev nD) (t : Fin cfg0.N) (d) : (dat V c).before 2 t d = blk V c 2 t :=
  (dat V c).before_in_eq_fetched 2 rfl (fun _ => rfl) (fun _ _ _ => rfl) (fun _ => rfl) t d

/-- Input 3 holds its block when a point begins. -/
theorem before_3 (c : Dev nD) (t : Fin cfg0.N) (d) : (dat V c).before 3 t d = blk V c 3 t :=
  (dat V c).before_in_eq_fetched 3 rfl (fun _ => rfl) (fun _ _ _ => rfl) (fun _ => rfl) t d

/-- The coordinate of a point is its number. -/
theorem coord_val (t : Fin cfg0.N) : (grid0.coords t 0).val = t.val := by
  have h := Pipeline.Grid.coords_val (G := grid0) t 0 (S := 1) (B := 128) (by decide) (by decide)
  have ht : t.val < 128 := t.isLt.trans_eq N_0
  omega

/-- The sum's buffer is written back at the last point only. -/
theorem before_5 (c : Dev nD) (t : Fin cfg0.N) (ht : t.val ≠ 0) (d) :
    (dat V c).before 5 t d = accAt V c (t.val - 1) (Nat.lt_of_le_of_lt (Nat.sub_le _ _) t.isLt) := by
  have hfl : (cfg0.win 5).flush ⟨t.val - 1, Nat.lt_of_le_of_lt (Nat.sub_le _ _) t.isLt⟩ = false := by
    have h := t.isLt.trans_eq N_0
    rw [Bool.eq_false_iff]
    intro hf
    have := (flush0_5 _).1 hf
    dsimp only at this
    omega
  exact (dat V c).before_out_kept 5 rfl t ht hfl (fun _ => rfl) (fun _ _ => rfl) d

/-- The running sum after a point, from what its buffer held before it. -/
theorem stepSum_before (c : Dev nD) (t : Fin cfg0.N) (d) :
    stepSum (grid0.coords t) (distAt V c t) ((dat V c).before 5 t d) = accAt V c t.val t.isLt := by
  obtain ⟨n, hn⟩ := t
  cases n with
  | zero =>
    have h0 : (grid0.coords (⟨0, hn⟩ : Fin cfg0.N) 0).val = 0 := coord_val _
    show stepSum _ _ _ = stepSum _ _ _
    simp only [stepSum, startSum, if_pos h0]
  | succ n => rw [before_5 V c ⟨n + 1, hn⟩ (Nat.succ_ne_zero n)]; rfl

/-- A whole memref held at what it reads, as its buffer held. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

set_option maxRecDepth 4000 in
/-- Every point's body obligation, by the body's run. -/
theorem body_obligation (c : Dev nD) : BodyObligation (dat V c) (defs₀ (F := F)) 𝒱₀ none Set.univ := fun t => by
  rw [bigSep_W0, bigSep_W0]
  rw [show (dat V c).Φ t.castSucc = Φc c from rfl, show (dat V c).Φ t.succ = Φc c from rfl,
    show (dat V c).owesAt none t.succ = (dat V c).owesAt none t.castSucc from rfl]
  have o0 := fun X => owns_pt (F := F) c (st0_0 t) (hstage0_0 _) X
  have o1 := fun X => owns_pt (F := F) c (st0_1 t) (hstage0_1 _) X
  have o2 := fun X => owns_pt (F := F) c (st0_2 t) (hstage0_2 _) X
  have o3 := fun X => owns_pt (F := F) c (st0_3 t) (hstage0_3 _) X
  have o4 := fun X => owns_pt (F := F) c (st0_4 t) (hstage0_4 _) X
  have o5 := fun X => owns_pt (F := F) c (st0_5 t) (hstage0_5 _) X
  iintro ⟨HΦ, Howes, ⟨%d0, H0⟩, ⟨%d1, H1⟩, ⟨%d2, H2⟩, ⟨%d3, H3⟩, ⟨%d4, H4⟩, ⟨%d5, H5⟩⟩
  ihave G0 := (Entails.of_eq (o0 ((dat V c).before 0 t d0))) $$ H0
  ihave G1 := (Entails.of_eq (o1 ((dat V c).before 1 t d1))) $$ H1
  ihave G2 := (Entails.of_eq (o2 ((dat V c).before 2 t d2))) $$ H2
  ihave G3 := (Entails.of_eq (o3 ((dat V c).before 3 t d3))) $$ H3
  ihave G4 := (Entails.of_eq (o4 ((dat V c).before 4 t d4))) $$ H4
  ihave G5 := (Entails.of_eq (o5 ((dat V c).before 5 t d5))) $$ H5
  icases G0 with ⟨%f0, %hf0, H0⟩
  icases G1 with ⟨%f1, %hf1, H1⟩
  icases G2 with ⟨%f2, %hf2, H2⟩
  icases G3 with ⟨%f3, %hf3, H3⟩
  icases G4 with ⟨%f4, -, H4⟩
  icases G5 with ⟨%f5, %hf5, H5⟩
  rw [before_0] at hf0
  rw [before_1] at hf1
  rw [before_2] at hf2
  rw [before_3] at hf3
  have hd : distAt V c t = blockDist ((st0_0 t).view.read (Elt F) f0) ((st0_1 t).view.read (Elt F) f1)
      ((st0_2 t).view.read (Elt F) f2) ((st0_3 t).view.read (Elt F) f3) := by
    rw [hf0, hf1, hf2, hf3]; rfl
  iapply (dist_run c (grid0.coords t) (st0_0 t) (hstage0_0 _) (st0_1 t) (hstage0_1 _) (st0_2 t) (hstage0_2 _)
    (st0_3 t) (hstage0_3 _) (st0_4 t) (hstage0_4 _) (st0_5 t) (hstage0_5 _) f0 f1 f2 f3 f4 f5 Set.univ _)
  rw [← hd]
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]
  · iapply (Entails.of_eq (o0 (blk V c 0 t)).symm); iexists f0; isplitr; · ipureintro; exact hf0
    iexact H0
  isplitl [H1]
  · iapply (Entails.of_eq (o1 (blk V c 1 t)).symm); iexists f1; isplitr; · ipureintro; exact hf1
    iexact H1
  isplitl [H2]
  · iapply (Entails.of_eq (o2 (blk V c 2 t)).symm); iexists f2; isplitr; · ipureintro; exact hf2
    iexact H2
  isplitl [H3]
  · iapply (Entails.of_eq (o3 (blk V c 3 t)).symm); iexists f3; isplitr; · ipureintro; exact hf3
    iexact H3
  isplitl [H4]
  · iapply (Entails.of_eq (o4 (pickBlock (distAt V c t))).symm); iexact H4
  iapply (Entails.of_eq (o5 (accAt V c t.val t.isLt)).symm)
  rw [hf5, stepSum_before V c t d5]
  iexact H5

/-- Before its SparseCore call a core owes nothing at no call. -/
theorem Otc_none (c : Dev nD) (g : GSem nD τ sig) : (K (F := F)).Otc c 0 g none = 0 := by
  by_contra h
  have := (K (F := F)).lev_of_Otc_pos (Nat.pos_of_ne_zero h)
  rw [SparseCore.Cfg.lev_none] at this
  omega

/-- What the core's debts and recorded waits are at the region's two ends. -/
abbrev tcOwes (c : Dev nD) : sProp 𝕄 :=
  iprop(∃ W, ⌜∀ p ∈ W, p.2 = none⌝ ∗ owes (c : Thread nD τ) ((K (F := F)).Otc c 0) W)

variable (Vp : (c : Dev nD) → (b : Ref sig .tc) → Buf (Elt F) ((c : Thread nD τ).loc b))

set_option backward.isDefEq.respectTransparency.types false in
/-- The region, over every unscoped buffer at a valuation: from `V` to any valuation that agrees with it but at the two
    results, which are what the grid's write-backs leave. -/
def reg (R : Dev nD → sProp 𝕄)
    (hVp_4 : ∀ c, Vp c main_v7_0 = (dat V c).arrAt 4 cfg0.N) (hVp_5 : ∀ c, Vp c main_v7_1 = (dat V c).arrAt 5 cfg0.N)
    (hVp_ne : ∀ c (b : Ref sig .tc), b ≠ main_v7_0 → b ≠ main_v7_1 → Vp c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ none 0 c fun w s t => (K (F := F)).mayWait_none _ (Otc_none c)
  pre c := iprop(unscopedBufs c (V c) ∗ R c ∗ tcOwes c)
  post c := iprop(unscopedBufs c (Vp c) ∗ R c ∗ tcOwes c)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_v2 (by decide) (by decide)).symm
        · exact ((pdats V 0 c).arrAt_in 1 rfl _).trans (hVp_ne c main_v5 (by decide) (by decide)).symm
        · exact ((pdats V 0 c).arrAt_in 2 rfl _).trans (hVp_ne c main_arg0 (by decide) (by decide)).symm
        · exact ((pdats V 0 c).arrAt_in 3 rfl _).trans (hVp_ne c main_v6 (by decide) (by decide)).symm
        · exact (hVp_4 c).symm
        · exact (hVp_5 c).symm)
      (fun b hb => hVp_ne c b (fun h => hb (h ▸ Finset.mem_image.mpr ⟨4, Finset.mem_univ _, rfl⟩))
        (fun h => hb (h ▸ Finset.mem_image.mpr ⟨5, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W; isplitr
    · ipureintro
      intro p hp
      rcases hW hp with h | ⟨w, s, rfl⟩
      · exact h
      · rfl
    iexact HO

end Cert.Proof.Whole
-- ==== Proof.WholeTile.lean ====
/-
  The row-gathering call: what one task does, run from end to end.
-/
module

public import proofs.«01_k».proof.Proof.WholeSet
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole main_v9_scv : Memref sig Kind.scVector Space.hbm S65536 EltTy.i32)
local notation "xV" => (Memref.whole main_v8_scv : Memref sig Kind.scVector Space.hbm S8192x128 EltTy.f32)
local notation "oV" => (Memref.whole main_v10_scv : Memref sig Kind.scVector Space.hbm S65536x128 EltTy.f32)
local notation "sV" => (Memref.whole cc1_scratch0 : Memref sig Kind.scVector Space.vmem S2048 EltTy.i32)
local notation "aV" => (Memref.whole cc1_scratch1 : Memref sig Kind.scVector Space.vmem S128x128 EltTy.f32)
local notation "bV" => (Memref.whole cc1_scratch2 : Memref sig Kind.scVector Space.vmem S128x128 EltTy.f32)
local notation "cV" => (Memref.whole cc1_scratch3 : Memref sig Kind.scVector Space.vmem S128x128 EltTy.f32)
local notation "eV" => (Memref.whole cc1_scratch4 : Memref sig Kind.scVector Space.vmem S128x128 EltTy.f32)

section Tile

variable (d : Dev nD) (L : grid1.Coords)

variable [FloatOps F]

set_option maxHeartbeats 4000000 in
/-- A task run from its row numbers, a share of the table and its rows of the result ends with each of its rows being the table's row of that number, with its semaphores back at zero. -/
theorem tile_body (hF : (K (F := F)).Facts) (q : PosShare TreeShare) (fi : Buf (Elt F) (iLoc d)) (fx : Buf (Elt F) (xLoc d))
    (hpre : ∀ j, (fi j).toNat < 8192) (O : CellTallies nD τ sig (HIx 1)) (W : Waits sig (HIx 1)) (hO : ∀ g, O g none = 0) :
    iprop(levAts (K (F := F)).L (K (F := F)).lev ∗ emp
        ∗ ((iLoc d ↦[(iMem L).view.set]{fullShare} fi) ∗ (xLoc d ↦{q} fx) ∗ ∃ f, oChunks d L f)
        ∗ scopedBufs (tl d L) ∗ scopedSems0 (tl d L) ∗ owes (tl d L) O W)
      ⊢ wp frame (wpE (defs₀ (F := F)) 𝒱₀ (tl d L) none) Set.univ
          (cc1__gather_body L xV (Memref.isWhole_whole _) iV (Memref.isWhole_whole _) oV (Memref.isWhole_whole _)
            sV (Memref.isWhole_whole _) aV (Memref.isWhole_whole _) bV (Memref.isWhole_whole _) cV (Memref.isWhole_whole _)
            eV (Memref.isWhole_whole _) cc1_scratch5 cc1_scratch6 cc1_scratch7 cc1_scratch8 cc1_scratch9 cc1_scratch10 cc1_scratch11
            cc1_scratch12 cc1_scoped0)
          fun _ => iprop(((iLoc d ↦[(iMem L).view.set]{fullShare} fi) ∗ (xLoc d ↦{q} fx) ∗ oChunks d L (rowsOf fi fx))
            ∗ scopedBufs (tl d L) ∗ scopedSems0 (tl d L)
            ∗ ∃ W', ⌜∀ p ∈ W', p ∈ W ∨ p.2 = none⌝ ∗ owes (tl d L) O W') := by
  simp only [cc1__gather_body_eq_skeleton]; unfold cc1__gather_body_skel
  rw [(K (F := F)).scopedBufs_V hF d (cr L) (sr L), SparseCore.Cfg.scopedSems0_V (Val := Elt F) d (cr L) (sr L), ownSems0_V, ownBufs_V]
  iintro ⟨#Hlv, -, ⟨Hi, Hx, ⟨%fo, Ho⟩⟩, ⟨⟨⟨%fs, Hs⟩, ⟨%fa, Ha⟩, ⟨%fb, Hb⟩, ⟨%fc, Hc⟩, ⟨%fe, He⟩⟩, Hbufs⟩,
    ⟨⟨Hg0, Hg1, Hg2, Hg3, Ht0, Ht1, Ht2, Ht3, Hf⟩, Hsems⟩, HO⟩
  ihave Hmw := (show levAts (K (F := F)).L (K (F := F)).lev ⊢ Transfers.MayWaits (tl d L) (default : HIx 1) O from
    (K (F := F)).mayWaits_none (thr := tl d L) hO) $$ Hlv
  ihave Hi' := (show (iLoc d ↦[(iMem L).view.set]{fullShare} fi : sProp 𝕄) ⊢ (iMem L).view.loc (tl d L) ↦[(iMem L).view.set]{fullShare} fi from
    Entails.of_eq rfl) $$ Hi
  ihave Hxt := (Entails.of_eq (xToks_eq (F := F) d L q fx)) $$ Hx
  icases Hxt with ⟨Hxr, Hx0, Hx1, Hx2, Hx3⟩
  ihave Ho' := (Entails.of_eq (oChunks_eq (F := F) d L fo)) $$ Ho
  icases Ho' with ⟨Ho0, Ho1, Ho2, Ho3, Ho4, Ho5, Ho6, Ho7, Ho8, Ho9, Ho10, Ho11, Ho12, Ho13, Ho14, Ho15⟩
  sl_exec
  obtain ⟨fl, hfl⟩ : ∃ fl, fl = listOf d L fi := ⟨_, rfl⟩
  have hin : ∀ (n : ℕ) (h : ∀ a, (![n] : Fin 1 → Nat) a + S128.size a ≤ S2048.size a) (x : S128.Idx),
      ((sAt n h).view.read (Elt F) fl x).toNat < 8192 := fun n h x => by
    rw [show (sAt n h).view.read (Elt F) fl x = fl ((sAt n h).view.emb x) from (View.read_apply _ _).trans (cast_eq _ _), hfl, listOf_apply]
    exact hpre _
  ihave Hs' := (Entails.of_eq (show ((sV).view.loc (tl d L) ↦{fullShare} View.write (Elt F) (sV).view fs (tile_body.sl.dma0 d L fi) Finset.univ : sProp 𝕄)
      = (sV).view.loc (tl d L) ↦{fullShare} fl by rw [View.write_whole_univ, hfl]; rfl)) $$ Hs
  ihave Hs := (Entails.of_eq (sChunks_eq (F := F) d L fl)) $$ Hs'
  icases Hs with ⟨Hs0, Hs1, Hs2, Hs3, Hs4, Hs5, Hs6, Hs7, Hs8, Hs9, Hs10, Hs11, Hs12, Hs13, Hs14, Hs15⟩
  sl_exec
  sl_step
  subst hfl
  isplitl [Hi' Hxr Hx0 Hx1 Hx2 Hx3 Ho0 Ho1 Ho2 Ho3 Ho4 Ho5 Ho6 Ho7 Ho8 Ho9 Ho10 Ho11 Ho12 Ho13 Ho14 Ho15]
  · isplitl [Hi']; · iexact Hi'
    isplitl [Hxr Hx0 Hx1 Hx2 Hx3]
    · iapply (Entails.of_eq (xToks_eq (F := F) d L q fx).symm)
      isplitl [Hxr]; · iexact Hxr
      isplitl [Hx0]; · iexact Hx0
      isplitl [Hx1]; · iexact Hx1
      isplitl [Hx2] <;> iassumption
    iapply (Entails.of_eq (oChunks_eq (F := F) d L (rowsOf fi fx)).symm)
    have hd := fun (k : Fin 16) {v : View sig .scVector .vmem S128x128 .f32} {f : v.ty.Contents (Elt F)}
      {T : List (View.Piece (Elt F) S128x128 .f32)} => Entails.of_eq (chunk_done (F := F) d L fi fx k fo (hin _ _) v f T)
    isplitl [Ho0]; · iapply (hd 0); iexact Ho0
    isplitl [Ho1]; · iapply (hd 1); iexact Ho1
    isplitl [Ho2]; · iapply (hd 2); iexact Ho2
    isplitl [Ho3]; · iapply (hd 3); iexact Ho3
    isplitl [Ho4]; · iapply (hd 4); iexact Ho4
    isplitl [Ho5]; · iapply (hd 5); iexact Ho5
    isplitl [Ho6]; · iapply (hd 6); iexact Ho6
    isplitl [Ho7]; · iapply (hd 7); iexact Ho7
    isplitl [Ho8]; · iapply (hd 8); iexact Ho8
    isplitl [Ho9]; · iapply (hd 9); iexact Ho9
    isplitl [Ho10]; · iapply (hd 10); iexact Ho10
    isplitl [Ho11]; · iapply (hd 11); iexact Ho11
    isplitl [Ho12]; · iapply (hd 12); iexact Ho12
    isplitl [Ho13]; · iapply (hd 13); iexact Ho13
    isplitl [Ho14]; · iapply (hd 14); iexact Ho14
    iapply (hd 15); iexact Ho15
  isplitl [Hs0 Hs1 Hs2 Hs3 Hs4 Hs5 Hs6 Hs7 Hs8 Hs9 Hs10 Hs11 Hs12 Hs13 Hs14 Hs15 Ha Hb Hc He Hbufs]
  · isplitr [Hbufs]; swap; · iexact Hbufs
    isplitl [Hs0 Hs1 Hs2 Hs3 Hs4 Hs5 Hs6 Hs7 Hs8 Hs9 Hs10 Hs11 Hs12 Hs13 Hs14 Hs15]
    · iexists _; iapply (Entails.of_eq (sChunks_eq (F := F) d L (listOf d L fi)).symm)
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      iexact Hs15
    isplitl [Ha]; · iexists _; iexact Ha
    isplitl [Hb]; · iexists _; iexact Hb
    isplitl [Hc]; · iexists _; iexact Hc
    iexists _; iexact He
  isplitr [HO]
  · isplitr [Hsems]; swap; · iexact Hsems
    isplitl [Hg0]; · iexact Hg0
    isplitl [Hg1]; · iexact Hg1
    isplitl [Hg2]; · iexact Hg2
    isplitl [Hg3]; · iexact Hg3
    isplitl [Ht0]; · iexact Ht0
    isplitl [Ht1]; · iexact Ht1
    isplitl [Ht2]; · iexact Ht2
    isplitl [Ht3]; · iexact Ht3
    iexact Hf
  iexists _; isplitr; swap; · iexact HO
  ipureintro; intro p hp
  repeat (rcases Finset.mem_insert.mp hp with hp | hp; · exact .inr (hp ▸ rfl))
  exact .inl hp

end Tile

end Cert.Proof.Whole

end
-- ==== Proof.WholeCall.lean ====
/-
  The row-gathering call inside the whole program: the thirty-two tasks' runs of row numbers and their rows of the
  result are the arrays, each split by task, and the padded table is shared out between the tasks. Every task meets
  what the call asks of it when the row numbers are in range.
-/
module

public import proofs.«01_k».proof.Proof.WholeTile
public import Idealize.ShloMosaic.Lib.KernelVsHost

@[expose] public section

set_option maxRecDepth 16384

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays, split by task -/

/-- The grid point of core `c`, subcore `i`. -/
abbrev coordsV (c : Fin (grid1.bound 0)) (i : Fin (grid1.bound 1)) : grid1.Coords := fun
  | 0 => c
  | 1 => i
  | ⟨_ + 2, h⟩ => absurd h (Nat.not_lt.2 (Nat.le_add_left _ _))
/-- The grid point of a pair of numbers. -/
abbrev at2 (t : Fin 2 × Fin 16) : grid1.Coords := coordsV t.1 t.2

/-- The first row of the task on a given core and subcore. -/
theorem base_at2 (t : Fin 2 × Fin 16) : base (at2 t) = 4096 * t.2.val + 2048 * t.1.val := rfl

/-- A task's share of the padded table. -/
def xShare (t : Fin 2 × Fin 16) : PosShare TreeShare := pieceOf fullShare 32 (by decide) (finProdFinEquiv t)

/-- Different tasks have different row numbers. -/
theorem i_disjoint : ∀ t ∈ (Finset.univ : Finset (Fin 2 × Fin 16)), ∀ u ∈ (Finset.univ : Finset (Fin 2 × Fin 16)), t ≠ u →
    Disjoint (iSet (at2 t)) (iSet (at2 u)) := fun t _ u _ h => Finset.disjoint_left.mpr fun x hi hj => by
  have hi := (mem_iSet (at2 t) x).mp hi
  have hj := (mem_iSet (at2 u) x).mp hj
  rw [base_at2] at hi hj
  have h1 := t.1.isLt; have h2 := u.1.isLt
  exact h (Prod.ext (Fin.ext (by omega)) (Fin.ext (by omega)))

/-- The tasks' row numbers are all of them. -/
theorem i_cover : (Finset.univ : Finset (Fin 2 × Fin 16)).biUnion (fun t => iSet (at2 t)) = Finset.univ :=
  Finset.eq_univ_iff_forall.mpr fun x => by
    have hx : (x 0).val < 65536 := (x 0).isLt
    refine Finset.mem_biUnion.mpr ⟨(⟨(x 0).val / 2048 % 2, by omega⟩, ⟨(x 0).val / 4096, by omega⟩), Finset.mem_univ _, (mem_iSet _ x).mpr ?_⟩
    rw [base_at2]; simp only; omega

/-- Different chunks of different tasks are different rows of the result. -/
theorem o_disjoint : ∀ t ∈ (Finset.univ : Finset ((Fin 2 × Fin 16) × Fin 16)), ∀ u ∈ (Finset.univ : Finset ((Fin 2 × Fin 16) × Fin 16)), t ≠ u →
    Disjoint (oSet (at2 t.1) t.2) (oSet (at2 u.1) u.2) := fun t _ u _ h => Finset.disjoint_left.mpr fun x hi hj => by
  have hi := (mem_oSet (at2 t.1) t.2 x).mp hi
  have hj := (mem_oSet (at2 u.1) u.2 x).mp hj
  rw [base_at2] at hi hj
  have h1 := t.1.1.isLt; have h2 := u.1.1.isLt; have h3 := t.2.isLt; have h4 := u.2.isLt
  exact h (Prod.ext (Prod.ext (Fin.ext (by omega)) (Fin.ext (by omega))) (Fin.ext (by omega)))

/-- The tasks' chunks are all rows of the result. -/
theorem o_cover : (Finset.univ : Finset ((Fin 2 × Fin 16) × Fin 16)).biUnion (fun t => oSet (at2 t.1) t.2) = Finset.univ :=
  Finset.eq_univ_iff_forall.mpr fun x => by
    have hx : (x 0).val < 65536 := (x 0).isLt
    refine Finset.mem_biUnion.mpr ⟨((⟨(x 0).val / 2048 % 2, by omega⟩, ⟨(x 0).val / 4096, by omega⟩), ⟨(x 0).val / 128 % 16, by omega⟩),
      Finset.mem_univ _, (mem_oSet _ _ x).mpr ?_⟩
    rw [base_at2]; simp only; omega

/-- The row numbers, task by task. -/
theorem i_split (d : Dev nD) (f : Buf (Elt F) (iLoc d)) :
    (iLoc d ↦{fullShare} f : sProp 𝕄) = bigSep Finset.univ fun t : Fin 2 × Fin 16 => iLoc d ↦[iSet (at2 t)]{fullShare} f := by
  have h := pointsTo_biUnion (Name := ℕ) (U := UU) (Lvl := ℕ) (Ix := HIx 1) (q := fullShare) (f := f) Finset.univ
    (ℓ := iLoc d) (fun t => iSet (at2 t)) i_disjoint
  rw [i_cover] at h; exact h

/-- The padded table, a share of it for each task. -/
theorem x_split (d : Dev nD) (f : Buf (Elt F) (xLoc d)) :
    (xLoc d ↦{fullShare} f : sProp 𝕄) = bigSep Finset.univ fun t : Fin 2 × Fin 16 => xLoc d ↦{xShare t} f := by
  rw [pointsTo_piecesOf Finset.univ f (o := 32) (by decide) fullShare]
  exact BI.bigSep_univ_equiv (finProdFinEquiv (m := 2) (n := 16)) _

/-- The result, task by task and chunk by chunk. -/
theorem o_split (d : Dev nD) (f : Buf (Elt F) (oLoc d)) :
    (oLoc d ↦{fullShare} f : sProp 𝕄) = bigSep Finset.univ fun t : Fin 2 × Fin 16 => oChunks d (at2 t) f := by
  have h := pointsTo_biUnion (Name := ℕ) (U := UU) (Lvl := ℕ) (Ix := HIx 1) (q := fullShare) (f := f) Finset.univ
    (ℓ := oLoc d) (fun t : (Fin 2 × Fin 16) × Fin 16 => oSet (at2 t.1) t.2) o_disjoint
  rw [o_cover] at h
  exact h.trans (BI.bigSep_univ_prod _)

/-! ## What each task is handed and hands back -/

section Launch

variable (fi : ∀ d, Buf (Elt F) (iLoc d)) (fx : ∀ d, Buf (Elt F) (xLoc d))

/-- What a task starts from, and what it ends at. -/
abbrev goPts (d : Dev nD) (t : Fin 2 × Fin 16) : sProp 𝕄 :=
  iprop((iLoc d ↦[iSet (at2 t)]{fullShare} fi d) ∗ (xLoc d ↦{xShare t} fx d) ∗ ∃ f, oChunks d (at2 t) f)
/-- What a task ends at: its rows of the result are gathered. -/
abbrev tdPts (d : Dev nD) (t : Fin 2 × Fin 16) : sProp 𝕄 :=
  iprop((iLoc d ↦[iSet (at2 t)]{fullShare} fi d) ∗ (xLoc d ↦{xShare t} fx d) ∗ oChunks d (at2 t) (rowsOf (fi d) (fx d)))

/-- The pair of numbers of a task as the launch counts them. -/
abbrev pr (q : Fin 1) (c : Fin ((K (F := F)).nCore q)) (i : Fin ((K (F := F)).nSub q)) : Fin 2 × Fin 16 :=
  match q with
  | 0 => (Fin.cast rfl c, Fin.cast rfl i)

/-- What the handshakes of the call carry. -/
def P : (K (F := F)).Pay (nD := nD) (Val := Elt F) (Name := ℕ) (U := UU) where
  st q d c := bigSep Finset.univ fun i => goPts fi fx d (pr q c i)
  dn q d c := bigSep Finset.univ fun i => tdPts fi fx d (pr q c i)
  go q d c i := goPts fi fx d (pr q c i)
  td q d c i := tdPts fi fx d (pr q c i)
  x := fun _ _ => iprop(emp)

/-- What the handshakes carry may be kept by a semaphore. -/
instance P_storable : (P fi fx).IsStorable where
  st q d c := by unfold P; infer_instance
  dn q d c := by unfold P; infer_instance
  go q d c i := by unfold P; infer_instance
  td q d c i := by unfold P; infer_instance

/-- What a sequencer is handed is what its tasks start from, and what they end at is what it hands back. -/
theorem vecSplit : (K (F := F)).VecSplit' (P fi fx) 0 := by
  intro d c
  show (bigSep Finset.univ fun i => goPts fi fx d (pr 0 c i)) ⊢ |={Set.univ}=> iprop((bigSep Finset.univ fun i => goPts fi fx d (pr 0 c i))
    ∗ ((bigSep Finset.univ fun i => tdPts fi fx d (pr 0 c i)) -∗ bigSep Finset.univ fun i => tdPts fi fx d (pr 0 c i)))
  iintro H; imodintro
  isplitl [H]; · iexact H
  iintro H; iexact H

/-- What the sequencers are handed is what all tasks start from. -/
theorem st0_eq (d : Dev nD) : (bigSep Finset.univ fun c : Fin ((K (F := F)).nCore 0) => (P fi fx).st 0 d c)
    = bigSep Finset.univ fun t : Fin 2 × Fin 16 => goPts fi fx d t :=
  (BI.bigSep_univ_prod (fun t : Fin 2 × Fin 16 => goPts fi fx d t)).symm
/-- What the sequencers hand back is the arrays whole, with every row gathered. -/
theorem dn0_eq (d : Dev nD) : (bigSep Finset.univ fun c : Fin ((K (F := F)).nCore 0) => (P fi fx).dn 0 d c)
    = iprop((iLoc d ↦{fullShare} fi d) ∗ (xLoc d ↦{fullShare} fx d) ∗ oLoc d ↦{fullShare} rowsOf (fi d) (fx d)) := by
  rw [i_split, x_split, o_split, ← bigSep_sep', ← bigSep_sep']
  exact (BI.bigSep_univ_prod (fun t : Fin 2 × Fin 16 => tdPts fi fx d t)).symm

/-- The arrays whole are what the tasks start from. -/
theorem st0_of (d : Dev nD) (f : Buf (Elt F) (oLoc d)) :
    (iprop((iLoc d ↦{fullShare} fi d) ∗ (xLoc d ↦{fullShare} fx d) ∗ oLoc d ↦{fullShare} f) : sProp 𝕄)
      ⊢ bigSep Finset.univ fun c : Fin ((K (F := F)).nCore 0) => (P fi fx).st 0 d c := by
  rw [st0_eq, i_split, x_split, o_split, ← bigSep_sep', ← bigSep_sep']
  refine bigSep_mono fun t _ => ?_
  show iprop((iLoc d ↦[iSet (at2 t)]{fullShare} fi d) ∗ (xLoc d ↦{xShare t} fx d) ∗ oChunks d (at2 t) f)
    ⊢ iprop((iLoc d ↦[iSet (at2 t)]{fullShare} fi d) ∗ (xLoc d ↦{xShare t} fx d) ∗ ∃ f, oChunks d (at2 t) f)
  iintro ⟨Hi, Hx, Ho⟩
  isplitl [Hi]; · iexact Hi
  isplitl [Hx]; · iexact Hx
  iexists f; iexact Ho

variable [FloatOps F]

/-- What a subcore runs in the call. -/
theorem defs₀_vector (c : Fin τ.nSC) (s : Fin τ.nSub) :
    defs₀ (F := F) (.scVector c s) 1 () = SparseCore.onTile hcore1 hsub1 (fun c s => cc1__gather_body (coordsV c s)
      (Memref.whole main_v8_scv) (Memref.isWhole_whole _) (Memref.whole main_v9_scv) (Memref.isWhole_whole _)
      (Memref.whole main_v10_scv) (Memref.isWhole_whole _) (Memref.whole cc1_scratch0) (Memref.isWhole_whole _)
      (Memref.whole cc1_scratch1) (Memref.isWhole_whole _) (Memref.whole cc1_scratch2) (Memref.isWhole_whole _)
      (Memref.whole cc1_scratch3) (Memref.isWhole_whole _) (Memref.whole cc1_scratch4) (Memref.isWhole_whole _)
      cc1_scratch5 cc1_scratch6 cc1_scratch7 cc1_scratch8 cc1_scratch9 cc1_scratch10 cc1_scratch11 cc1_scratch12 cc1_scoped0) ⟨⟩ c s := rfl

/-- A weaker account of the waits a task has made. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every task meets what the launch asks of it, when every row number is in range. -/
theorem tileObl (hpre : ∀ d j, (fi d j).toNat < 8192) : (K (F := F)).TileObl (D (F := F)) 𝒱 (P fi fx) v₀ 0 := by
  intro d c i O W hO _ _
  simp only [show (P fi fx).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (xShare (pr 0 c i)) (fi d) (fx d) (hpre d) O W hO).trans
    (wp_mono frame _ _ fun _ => obl_post)

end Launch

end Cert.Proof.Whole

end
-- ==== Proof.WholeRun.lean ====
/-
  The whole program's run, over any floating-point type: the norms and the doubled codebook, the distance call as a
  region, the padding, the row-gathering call, and the operations after it. The run's theorem states what every array
  the claims read holds at the end, given that the row numbers the distance call picked are in range.
-/
module

public import proofs.«01_k».proof.Proof.DistRegion
public import proofs.«01_k».proof.Proof.WholeCall
public import Idealize.ShloMosaic.Lib.KernelVsHost

@[expose] public section

set_option maxRecDepth 16384

noncomputable section

namespace Cert.Proof.Whole

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sub_split held_congr held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The ghost state the run starts from -/

/-- Where the distance call's cells live in the certificate's algebra. -/
def EP : Emb UP (MT nD τ sig (HIx 1) (Elt F) ℕ UU ℕ) := (Emb.inl : Emb UP (UP × Counters)).trans embR

/-- The distance call's cells lie among the launch's own accounts. -/
instance EP_lands : (EP (F := F)).LandsIn (upEmb : UEmb _ (MT nD τ sig (HIx 1) (Elt F) ℕ UU ℕ)) := by unfold EP; infer_instance

section Ghost

variable [FloatOps F]

/-- The program's one pipeline. -/
abbrev pl : Fin 1 → Pipeline.Cfg sig Λ₀ := Pipeline.pin (pcfgs (F := F)) adm

/-- The pipeline's cells are different from one another. -/
theorem pl_inj : Function.Injective (Pipeline.cellOf (nD := nD) (τ := τ) (pl (F := F))) := cellOf_inj

/-- The handshakes' cells and the pipeline's. -/
def u₀ : UU := (initOf (K (F := F)).hsCells (K (F := F)).hsToks,
  (initOf (Pipeline.cells (pl (F := F)) pl_inj) (Pipeline.launchToks (pl (F := F)) pl_inj), 1))

/-- What each core is handed for the distance call. -/
abbrev ghost (d : Dev nD) : sProp 𝕄 := iprop(Pipeline.cellsGhost (pl (F := F)) EP 0 d ∗ Pipeline.toksInit (pl (F := F)) EP 0 d)

/-- Many times nothing is nothing. -/
theorem bigSep_emp' {I : Type} (s : Finset I) : (bigSep s fun _ => iprop(emp)) = (iprop(emp) : sProp 𝕄) := bigSep_emp_const s

/-- The accounts at the launch are what the threads start from. -/
theorem hu₀ (fi : ∀ d, Buf (Elt F) (iLoc d)) (fx : ∀ d, Buf (Elt F) (xLoc d)) : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P fi fx).x q thr) := by
  unfold u₀
  iintro Hu
  ihave H := (ownU_pair (initOf (K (F := F)).hsCells (K (F := F)).hsToks)
    ((initOf (Pipeline.cells (pl (F := F)) pl_inj) (Pipeline.launchToks (pl (F := F)) pl_inj), 1) : UP × Counters)) $$ Hu
  icases H with ⟨HH, HR⟩
  ihave H := (own_pair_emb embR (initOf (Pipeline.cells (pl (F := F)) pl_inj) (Pipeline.launchToks (pl (F := F)) pl_inj)) (1 : Counters)) $$ HR
  icases H with ⟨HP, -⟩
  have hf : (BI.own (((Emb.inl : Emb UP (UP × Counters)).trans embR) (initOf (Pipeline.cells (pl (F := F)) pl_inj) (Pipeline.launchToks (pl (F := F)) pl_inj))) : sProp 𝕄)
      ⊢ iprop(|==> ((bigSep Finset.univ fun c : Dev nD => bigSep Finset.univ fun p => Pipeline.cellsGhost (pl (F := F)) EP p c)
        ∗ (bigSep Finset.univ fun c : Dev nD => bigSep Finset.univ fun p => (Pipeline.toksInit (pl (F := F)) EP p c : sProp 𝕄)))) :=
    Pipeline.fund_ghost (pl (F := F)) EP pl_inj
  rw [show (bigSep Finset.univ fun c : Dev nD => bigSep Finset.univ fun p => (Pipeline.cellsGhost (pl (F := F)) EP p c : sProp 𝕄))
      = bigSep Finset.univ fun c => Pipeline.cellsGhost (pl (F := F)) EP 0 c from bigSep_congr fun _ _ => bigSep_univ_of_subsingleton (0 : Fin 1),
    show (bigSep Finset.univ fun c : Dev nD => bigSep Finset.univ fun p => (Pipeline.toksInit (pl (F := F)) EP p c : sProp 𝕄))
      = bigSep Finset.univ fun c => Pipeline.toksInit (pl (F := F)) EP 0 c from bigSep_congr fun _ _ => bigSep_univ_of_subsingleton (0 : Fin 1)] at hf
  imod hf $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P fi fx).x q thr) = bigSep Finset.univ fun _ => iprop(emp) from
    bigSep_congr fun _ _ => bigSep_univ_of_subsingleton (0 : Fin 1), bigSep_emp']
  iempintro

end Ghost

/-! ## `main` -/

section Main

variable [FloatOps F] (m : (ℓ : Loc nD τ sig) → Buf (Elt F) ℓ) (ρ : Dev nD → PrngReg)

/-- The operations before the distance call. -/
def ops1 : List (HloOp τ sig (Elt F)) :=
  [StableHlo.binary main_arg0 main_arg0 main_v0 (mulf : (⟨S65536x64, .f32⟩ : BufTy).Contents (Elt F) → (⟨S65536x64, .f32⟩ : BufTy).Contents (Elt F) → (⟨S65536x64, .f32⟩ : BufTy).Contents (Elt F)),
    StableHlo.nullary main_cst (constant S_ .f32 0x00000000#32),
    StableHlo.binary main_v0 main_cst main_v1 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    StableHlo.unary main_v1 main_v2 (broadcastInDim S65536x1 ![0] bcast_S65536_S65536x1_0 : (⟨S65536, .f32⟩ : BufTy).Contents (Elt F) → (⟨S65536x1, .f32⟩ : BufTy).Contents (Elt F)),
    StableHlo.binary main_arg1 main_arg1 main_v3 (mulf : (⟨S8192x64, .f32⟩ : BufTy).Contents (Elt F) → (⟨S8192x64, .f32⟩ : BufTy).Contents (Elt F) → (⟨S8192x64, .f32⟩ : BufTy).Contents (Elt F)),
    StableHlo.nullary main_cst_0 (constant S_ .f32 0x00000000#32),
    StableHlo.binary main_v3 main_cst_0 main_v4 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    StableHlo.unary main_v4 main_v5 (broadcastInDim S1x8192 ![1] bcast_S8192_S1x8192_1 : (⟨S8192, .f32⟩ : BufTy).Contents (Elt F) → (⟨S1x8192, .f32⟩ : BufTy).Contents (Elt F)),
    StableHlo.binary main_arg1 main_arg1 main_v6 (addf : (⟨S8192x64, .f32⟩ : BufTy).Contents (Elt F) → (⟨S8192x64, .f32⟩ : BufTy).Contents (Elt F) → (⟨S8192x64, .f32⟩ : BufTy).Contents (Elt F))]

/-- The operations between the two calls. -/
def ops2 : List (HloOp τ sig (Elt F)) :=
  [StableHlo.nullary main_c (constantI S_ 32 0#32),
    StableHlo.TRef.unary (.of main_c) main_call0.v0 (sitofp .f32),
    StableHlo.TRef.binary (.of main_arg1 : StableHlo.TRef sig ⟨S8192x64, .f32⟩) main_call0.v0 main_call0.v1
      (fun x v => pad S8192x128 ![0, 0] ![0, 64] ![0, 0] x v pads_S8192x64_S8192x128_000_0640 h_S_),
    StableHlo.reshape main_v7_0 main_v9 (rfl : (.i32 : EltTy) = .i32) shapeCasts_S1x65536_S65536]

/-- The operations after the row-gathering call. -/
def ops3 : List (HloOp τ sig (Elt F)) :=
  [StableHlo.unary main_v10 main_v11 ((extractStridedSlice S65536x64 ![0, 0] · slices_S65536x128_S65536x64_0_0) : (⟨S65536x128, .f32⟩ : BufTy).Contents (Elt F) → (⟨S65536x64, .f32⟩ : BufTy).Contents (Elt F)),
    StableHlo.binary main_v11 main_arg0 main_v12 (subf : (⟨S65536x64, .f32⟩ : BufTy).Contents (Elt F) → (⟨S65536x64, .f32⟩ : BufTy).Contents (Elt F) → (⟨S65536x64, .f32⟩ : BufTy).Contents (Elt F)),
    StableHlo.binary main_arg0 main_v12 main_v13 (addf : (⟨S65536x64, .f32⟩ : BufTy).Contents (Elt F) → (⟨S65536x64, .f32⟩ : BufTy).Contents (Elt F) → (⟨S65536x64, .f32⟩ : BufTy).Contents (Elt F)),
    StableHlo.reshape main_v7_1 main_v14 (rfl : (.f32 : EltTy) = .f32) shapeCasts_S1x1_S_]

/-- `main` is host operations, the distance call, host operations, the row-gathering call, and host operations. -/
theorem main_eq (d : Dev nD) : main (F := F) d = (StableHlo.seq ops1 >>= fun _ => Prog.lift (.customCall (SparseCore.inner (Pipeline.entry 0)) ()) >>= fun _ =>
    (StableHlo.seq ops2 >>= fun _ => (sc (F := F)).run d 0 >>= fun _ => (StableHlo.seq ops3 >>= fun _ => pure ⟨⟩))) := rfl

/-- The arrays the program holds between its calls. -/
def ucRefs : Finset (DevRef τ sig) := (StableHlo.tcRefs τ sig).filter fun b => ¬ b.isScoped

/-- The arrays the launch hands over are held at their contents then. -/
theorem unscopedBufs_held (c : Dev nD) (W : Valuation τ sig (Elt F)) :
    (unscopedBufs c (fun b => W (Proc.devRef .tc b)) : sProp 𝕄) = held (c.tc : Thread nD τ) ucRefs W := by
  unfold unscopedBufs held ucRefs StableHlo.tcRefs
  rw [Finset.filter_map, bigSep_map]
  rfl

/-- An array of `main` is among those held between the calls. -/
theorem mem_uc (b : Ref sig .tc) (h : ¬ b.isScoped) : Proc.devRef .tc b ∈ ucRefs :=
  Finset.mem_filter.mpr ⟨Finset.mem_map_of_mem _ (Finset.mem_univ b), h⟩
/-- So is a set of one. -/
theorem sub1 (a : Ref sig .tc) (ha : ¬ a.isScoped) : ({Proc.devRef .tc a} : Finset (DevRef τ sig)) ⊆ ucRefs :=
  Finset.singleton_subset_iff.mpr (mem_uc a ha)
/-- So is a set of two. -/
theorem sub2 (a b : Ref sig .tc) (ha : ¬ a.isScoped) (hb : ¬ b.isScoped) :
    ({Proc.devRef .tc a, Proc.devRef .tc b} : Finset (DevRef τ sig)) ⊆ ucRefs :=
  Finset.insert_subset (mem_uc a ha) (sub1 b hb)
/-- So is a set of three. -/
theorem sub3 (a b c : Ref sig .tc) (ha : ¬ a.isScoped) (hb : ¬ b.isScoped) (hc : ¬ c.isScoped) :
    ({Proc.devRef .tc a, Proc.devRef .tc b, Proc.devRef .tc c} : Finset (DevRef τ sig)) ⊆ ucRefs :=
  Finset.insert_subset (mem_uc a ha) (sub2 b c hb hc)

/-- The operations before the distance call stay within the arrays held. -/
theorem uc1 : ∀ op ∈ ops1 (F := F), op.bufs ⊆ ucRefs := List.forall_iff_forall_mem.mp
  ⟨sub3 main_arg0 main_arg0 main_v0 (by decide) (by decide) (by decide), sub1 main_cst (by decide),
    sub3 main_v0 main_cst main_v1 (by decide) (by decide) (by decide), sub2 main_v1 main_v2 (by decide) (by decide),
    sub3 main_arg1 main_arg1 main_v3 (by decide) (by decide) (by decide), sub1 main_cst_0 (by decide),
    sub3 main_v3 main_cst_0 main_v4 (by decide) (by decide) (by decide), sub2 main_v4 main_v5 (by decide) (by decide),
    sub3 main_arg1 main_arg1 main_v6 (by decide) (by decide) (by decide)⟩
/-- The operations between the calls stay within the arrays held. -/
theorem uc2 : ∀ op ∈ ops2 (F := F), op.bufs ⊆ ucRefs := List.forall_iff_forall_mem.mp
  ⟨sub1 main_c (by decide), sub2 main_c main_call0_v0 (by decide) (by decide),
    sub3 main_arg1 main_call0_v0 main_v8 (by decide) (by decide) (by decide), sub2 main_v7_0 main_v9 (by decide) (by decide)⟩
/-- The operations after the calls stay within the arrays held. -/
theorem uc3 : ∀ op ∈ ops3 (F := F), op.bufs ⊆ ucRefs := List.forall_iff_forall_mem.mp
  ⟨sub2 main_v10 main_v11 (by decide) (by decide), sub3 main_v11 main_arg0 main_v12 (by decide) (by decide) (by decide),
    sub3 main_arg0 main_v12 main_v13 (by decide) (by decide) (by decide), sub2 main_v7_1 main_v14 (by decide) (by decide)⟩
/-- The operations before the distance call make no new array. -/
theorem fresh1 : ∀ op ∈ ops1 (F := F), op.fresh = ∅ := List.forall_iff_forall_mem.mp ⟨rfl, rfl, rfl, rfl, rfl, rfl, rfl, rfl, rfl⟩
/-- The operations between the calls make no new array. -/
theorem fresh2 : ∀ op ∈ ops2 (F := F), op.fresh = ∅ := List.forall_iff_forall_mem.mp ⟨rfl, rfl, rfl, rfl⟩
/-- The operations after the calls make no new array. -/
theorem fresh3 : ∀ op ∈ ops3 (F := F), op.fresh = ∅ := List.forall_iff_forall_mem.mp ⟨rfl, rfl, rfl, rfl⟩

/-- The row numbers. -/
abbrev i' : DevRef τ sig := Proc.devRef .tc (main_v9 : Ref sig .tc)
/-- The padded table. -/
abbrev x' : DevRef τ sig := Proc.devRef .tc (main_v8 : Ref sig .tc)
/-- The gathered rows. -/
abbrev o' : DevRef τ sig := Proc.devRef .tc (main_v10 : Ref sig .tc)
/-- The picked row numbers, as a row. -/
abbrev k' : DevRef τ sig := Proc.devRef .tc (main_v7_0 : Ref sig .tc)
/-- The loss, as one entry. -/
abbrev s' : DevRef τ sig := Proc.devRef .tc (main_v7_1 : Ref sig .tc)

/-- The arrays at the launch, and as the distance call finds them. -/
def V0 (d : Dev nD) : Valuation τ sig (Elt F) := fun b => m (d, b)
/-- The arrays as the distance call finds them. -/
def V1 (d : Dev nD) : Valuation τ sig (Elt F) := StableHlo.after ops1 (V0 m d)
/-- The same, as the region's proof data take them. -/
abbrev V1r (d : Dev nD) (b : Ref sig .tc) : Buf (Elt F) ((d.tc : Thread nD τ).loc b) := V1 m d (Proc.devRef .tc b)

/-- The picked row numbers and the loss, as the distance call's write-backs leave them. -/
def picks (d : Dev nD) : Buf (Elt F) ((d.tc : Thread nD τ).loc main_v7_0) := (dat (V1r m) d).arrAt 4 cfg0.N
/-- The loss, as the distance call's write-backs leave it. -/
def lossArr (d : Dev nD) : Buf (Elt F) ((d.tc : Thread nD τ).loc main_v7_1) := (dat (V1r m) d).arrAt 5 cfg0.N

/-- The arrays after the distance call, before and after the row-gathering call, and at the end. -/
def V2 (d : Dev nD) : Valuation τ sig (Elt F) := Function.update (Function.update (V1 m d) k' (picks m d)) s' (lossArr m d)
/-- The arrays before the row-gathering call. -/
def V3 (d : Dev nD) : Valuation τ sig (Elt F) := StableHlo.after ops2 (V2 m d)
/-- The arrays after the row-gathering call. -/
def V4 (d : Dev nD) : Valuation τ sig (Elt F) := Function.update (V3 m d) o' (rowsOf (V3 m d i') (V3 m d x'))
/-- The arrays at the end. -/
def V5 (d : Dev nD) : Valuation τ sig (Elt F) := StableHlo.after ops3 (V4 m d)

/-- The distance call inside `main`: from every array before it to every array after it. -/
theorem wp_region [∀ e, Nonempty (Elt F e)] (d : Dev nD) (Q : PUnit → sProp 𝕄) :
    iprop((iprop(boundary (SparseCore.T d) ∗ held (SparseCore.T d) ucRefs (V2 m d) ∗ tcOwes d) -∗ Q ⟨⟩)
        ∗ boundary (SparseCore.T d) ∗ (held (SparseCore.T d) ucRefs (V1 m d) ∗ tcOwes d) ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ())) Q := by
  have hl := (K (F := F)).wp_liftProg (D (F := F)) 𝒱 (SparseCore.T d) Set.univ none
    ((.op (.customCall (Pipeline.entry 0) ()) .ret : Prog (TpuEff nD τ sig (Elt F) (ΛP (F := F)) .tc) PUnit)) Q
  have R : iprop((iprop(boundary (SparseCore.T d) ∗ unscopedBufs d (fun b => V2 m d (Proc.devRef .tc b)) ∗ emp ∗ tcOwes d)
          -∗ wp frame (wpE (D (F := F)) 𝒱 (SparseCore.T d) none) Set.univ (.ret ⟨⟩) Q)
        ∗ boundary (SparseCore.T d) ∗ (unscopedBufs d (V1r m d) ∗ emp ∗ tcOwes d) ∗ levAts (K (F := F)).L (K (F := F)).lev ∗ ghost d)
      ⊢ wp frame (wpE (D (F := F)) 𝒱 (SparseCore.T d) none) Set.univ (.op (.customCall (Pipeline.entry 0) ()) .ret) Q :=
    Pipeline.RegionSeg.wp (pcfgs (F := F)) adm (pdats (V1r m)) none pl_inj EP defs₀ 𝒱₀ (K (F := F)).L (K (F := F)).lev
    (reg (V1r m) (fun c b => V2 m c (Proc.devRef .tc b)) (fun _ => iprop(emp))
      (fun c => by
        show Function.update (Function.update (V1 m c) k' (picks m c)) s' (lossArr m c) k' = _
        rw [Function.update_of_ne (by decide), Function.update_self]; rfl)
      (fun c => by
        show Function.update (Function.update (V1 m c) k' (picks m c)) s' (lossArr m c) s' = _
        rw [Function.update_self]; rfl)
      (fun c b h1 h2 => by
        have hinj : Function.Injective (Proc.devRef (τ := τ) (sig := sig) .tc) := Proc.devRef_injective _
        show Function.update (Function.update (V1 m c) k' (picks m c)) s' (lossArr m c) (Proc.devRef .tc b) = _
        rw [Function.update_of_ne (fun h => h2 (hinj h)), Function.update_of_ne (fun h => h1 (hinj h))]))
    d none (fun _ h => nomatch h) .ret Q
  iintro ⟨HQ, Hb, ⟨Hh, HO⟩, Hl, Hg, Ht⟩
  iapply hl
  iapply R
  isplitl [HQ]
  · iintro ⟨Hb, Hu, -, HO⟩
    rw [wp_ret]; imodintro
    iapply HQ
    isplitl [Hb]; · iexact Hb
    isplitl [Hu]
    · iapply (Entails.of_eq (unscopedBufs_held (F := F) d (V2 m d))); iexact Hu
    iexact HO
  isplitl [Hb]; · iexact Hb
  isplitl [Hh HO]
  · isplitl [Hh]
    · iapply (Entails.of_eq (unscopedBufs_held (F := F) d (V1 m d)).symm); iexact Hh
    isplitr; · iempintro
    iexact HO
  isplitl [Hl]; · iexact Hl
  isplitl [Hg] <;> iassumption

/-- The three arrays the row-gathering call works on. -/
abbrev S3 : Finset (DevRef τ sig) := {i', x', o'}
/-- The three arrays are among those held. -/
theorem hS3 : S3 ⊆ ucRefs := sub3 main_v9 main_v8 main_v10 (by decide) (by decide) (by decide)

/-- Holding the three arrays is holding each of them. -/
theorem held_S3 (d : Dev nD) (W : Valuation τ sig (Elt F)) :
    (held (T d) S3 W : sProp 𝕄) = iprop((iLoc d ↦{fullShare} W i') ∗ (xLoc d ↦{fullShare} W x') ∗ oLoc d ↦{fullShare} W o') := by
  unfold held S3
  rw [SparseCore.bigSep_insert' (by decide), SparseCore.bigSep_insert' (by decide), bigSep_singleton]

/-- The call changes nothing but the gathered rows. -/
theorem V4_of (d : Dev nD) (b : DevRef τ sig) (h : b ≠ o') : V4 m d b = V3 m d b := Function.update_of_ne h _ _
/-- After the call the gathered rows are the named rows of the table. -/
theorem V4_o (d : Dev nD) : V4 m d o' = rowsOf (V3 m d i') (V3 m d x') := Function.update_self _ _ _

/-- The arrays the row-gathering call leaves alone. -/
theorem held_rest (d : Dev nD) : (held (T d) (ucRefs \ S3) (V4 m d) : sProp 𝕄) = held (T d) (ucRefs \ S3) (V3 m d) :=
  held_congr _ fun b hb => V4_of m d b fun h => (Finset.mem_sdiff.mp hb).2 (by rw [h]; decide)

/-- What the claims read: the arguments and the results. -/
abbrev z' : DevRef τ sig := Proc.devRef .tc (main_arg0 : Ref sig .tc)
/-- The codebook. -/
abbrev cb' : DevRef τ sig := Proc.devRef .tc (main_arg1 : Ref sig .tc)
/-- The straight-through result. -/
abbrev st' : DevRef τ sig := Proc.devRef .tc (main_v13 : Ref sig .tc)
/-- The loss. -/
abbrev ls' : DevRef τ sig := Proc.devRef .tc (main_v14 : Ref sig .tc)
/-- The arrays that the claims read. -/
abbrev S5 : Finset (DevRef τ sig) := {z', cb', st', ls', i'}
/-- They are among those held. -/
theorem hS5 : S5 ⊆ ucRefs :=
  Finset.insert_subset (mem_uc main_arg0 (by decide)) (Finset.insert_subset (mem_uc main_arg1 (by decide))
    (sub3 main_v13 main_v14 main_v9 (by decide) (by decide) (by decide)))

/-- What `main` leaves for the claims. -/
abbrev FIN (d : Dev nD) : sProp 𝕄 := held (T d) S5 (V5 m d)

/-- The core's debts and waits, out of its state before its SparseCore call, and back. -/
theorem tcSt_open (d : Dev nD) : ∃ R : sProp 𝕄, (((K (F := F)).tcSt EH d 0 : sProp 𝕄) ⊢ iprop(tcOwes d ∗ R))
    ∧ ((iprop(tcOwes d ∗ R) : sProp 𝕄) ⊢ (K (F := F)).tcSt EH d 0) := by
  unfold SparseCore.Cfg.tcSt
  have hA : iprop(∃ W, ⌜(K (F := F)).WBelow (T d) W (8 * SparseCore.Cfg.Blocks.fst 1 1 0)⌝ ∗ owes (T d) ((K (F := F)).Otc d 0) W) ⊢ tcOwes (F := F) d := by
    iintro ⟨%W, %hW, HO⟩
    iexists W; isplitr
    · ipureintro
      intro p hp
      have h := hW p hp
      cases hι : p.2 with
      | none => rfl
      | some q =>
        rw [hι] at h
        exact absurd (Nat.lt_of_lt_of_le ((K (F := F)).lev_some_pos (T d, p.1) q) h) (by decide)
    iexact HO
  have hB : tcOwes (F := F) d ⊢ iprop(∃ W, ⌜(K (F := F)).WBelow (T d) W (8 * SparseCore.Cfg.Blocks.fst 1 1 0)⌝ ∗ owes (T d) ((K (F := F)).Otc d 0) W) := by
    iintro ⟨%W, %hW, HO⟩
    iexists W; isplitr
    · ipureintro
      intro p hp
      rw [hW p hp, SparseCore.Cfg.lev_none]
      exact Nat.zero_le _
    iexact HO
  exact ⟨_, sep_mono_left hA, sep_mono_left hB⟩

/-- `main` on a core: the operations, the distance call, the operations, the row-gathering call, the operations. -/
theorem hmain [∀ e, Nonempty (Elt F e)] (κ : GSem nD τ sig → ℕ) (d : Dev nD) :
    iprop((K (F := F)).ctx EH (P (fun d => V3 m d i') (fun d => V3 m d x')) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hopen, hclose⟩ := tcSt_open (F := F) d
  unfold SparseCore.Cfg.tcRes SparseCore.Cfg.tcEnd
  rw [main_eq]
  iintro ⟨#Hctx, Hst, ⟨Hb, Hub, Hts, -⟩, Hgh⟩
  ihave Hheld := (Entails.of_eq (show (unscopedBufs d (fun b => m ((SparseCore.T d).loc b)) : sProp 𝕄) = held (T d) ucRefs (V0 m d) from
    unscopedBufs_held (F := F) d (V0 m d))) $$ Hub
  iapply (StableHlo.wp_seq 𝒱 none Set.univ d ucRefs _ ops1 uc1 fresh1 (V0 m d)) $$ [Hb Hheld]
  · isplitl [Hb] <;> iassumption
  iintro ⟨Hb, Hheld⟩
  rw [wp_bind]
  ihave Ho := hopen $$ Hst
  icases Ho with ⟨HO, HR⟩
  ihave Hlev := ((K (F := F)).ctx_levAts (EH := EH) (P := P (fun d => V3 m d i') (fun d => V3 m d x')) κ) $$ Hctx
  iapply (wp_region m d _)
  isplitr [Hb Hheld HO Hlev Hgh]
  · iintro ⟨Hb, Hheld, HO⟩
    ihave Hst := hclose $$ [HO HR]
    · isplitl [HO] <;> iassumption
    iapply (StableHlo.wp_seq 𝒱 none Set.univ d ucRefs _ ops2 uc2 fresh2 (V2 m d)) $$ [Hb Hheld]
    · isplitl [Hb] <;> iassumption
    iintro ⟨Hb, Hheld⟩
    rw [wp_bind]
    ihave Hh := (Entails.of_eq (show (held (d.tc : Thread nD τ) ucRefs (StableHlo.after ops2 (V2 m d)) : sProp 𝕄)
      = iprop(held (T d) S3 (V3 m d) ∗ held (T d) (ucRefs \ S3) (V3 m d)) from held_sub_split (T d) hS3 (V3 m d))) $$ Hheld
    icases Hh with ⟨H3, Hrest⟩
    ihave H3' := (Entails.of_eq (held_S3 (F := F) d (V3 m d))) $$ H3
    icases H3' with ⟨Hi, Hx, Ho⟩
    iapply ((K (F := F)).wp_run (D (F := F)) 𝒱 (EH := EH) (P := P (fun d => V3 m d i') (fun d => V3 m d x')) κ d 0) $$ [Hst Hi Hx Ho Hrest Hb Hts]
    isplitr; · iexact Hctx
    isplitl [Hst]; · iexact Hst
    isplitl [Hi Hx Ho]
    · iapply (st0_of (fun d => V3 m d i') (fun d => V3 m d x') d (V3 m d o'))
      isplitl [Hi]; · iexact Hi
      isplitl [Hx]; · iexact Hx
      iexact Ho
    iintro ⟨Hst, Hdn⟩
    ihave Hdn' := (Entails.of_eq (dn0_eq (fun d => V3 m d i') (fun d => V3 m d x') d)) $$ Hdn
    icases Hdn' with ⟨Hi, Hx, Ho⟩
    iapply (StableHlo.wp_seq 𝒱 none Set.univ d ucRefs _ ops3 uc3 fresh3 (V4 m d)) $$ [Hb Hi Hx Ho Hrest]
    · isplitl [Hb]; · iexact Hb
      rw [held_sub_split (T d) hS3 (V4 m d), held_rest, held_S3, V4_o, V4_of m d i' (by decide), V4_of m d x' (by decide)]
      isplitr [Hrest]
      · isplitl [Hi]; · iexact Hi
        isplitl [Hx]; · iexact Hx
        iexact Ho
      iexact Hrest
    iintro ⟨Hb, Hheld⟩
    ihave Hh := (Entails.of_eq (show (held (d.tc : Thread nD τ) ucRefs (StableHlo.after ops3 (V4 m d)) : sProp 𝕄)
      = iprop(held (T d) S5 (V5 m d) ∗ held (T d) (ucRefs \ S5) (V5 m d)) from held_sub_split (T d) hS5 (V5 m d))) $$ Hheld
    icases Hh with ⟨H5, -⟩
    rw [wp_pure]; imodintro
    isplitl [Hst]; · iexact Hst
    isplitl [H5]; · iexact H5
    isplitl [Hb] <;> iassumption
  isplitl [Hb]; · iexact Hb
  isplitl [Hheld HO]
  · isplitl [Hheld]
    · iapply (Entails.of_eq (show (held (d.tc : Thread nD τ) ucRefs (StableHlo.after ops1 (V0 m d)) : sProp 𝕄) = held (T d) ucRefs (V1 m d) from rfl))
      iexact Hheld
    iexact HO
  isplitl [Hlev]; · iexact Hlev
  iexact Hgh

/-- What the claims read of a final state. -/
def fq (d : Dev nD) (s : Phys nD τ sig (Elt F)) : Prop := ∀ b ∈ S5, s.mem.mem (d, b) = V5 m d b

/-- What `main` leaves shows what the claims read. -/
theorem hfin (d : Dev nD) (s : Phys nD τ sig (Elt F)) : iprop(FIN m d ∗ SI s) ⊢ (⌜fq m d s⌝ : sProp 𝕄) := by
  have hone : ∀ b ∈ S5, iprop(FIN m d ∗ SI s) ⊢ (⌜s.mem.mem (d, b) = V5 m d b⌝ : sProp 𝕄) := fun b hb => by
    iintro ⟨H, HSI⟩
    ihave Hh := (Entails.of_eq (held_sub_split (T d) (Finset.singleton_subset_iff.mpr hb) (V5 m d))) $$ H
    icases Hh with ⟨H1, -⟩
    ihave H1' := (Entails.of_eq (show (held (T d) {b} (V5 m d) : sProp 𝕄) = ((d, b) ↦{fullShare} V5 m d b) from bigSep_singleton)) $$ H1
    ihave H := (SI_pointsTo_agree (st := s) (ℓ := (d, b)) (I := Finset.univ) (q := fullShare) (f := V5 m d b)) $$ [HSI H1']
    · isplitl [HSI] <;> iassumption
    icases H with %h
    ipureintro
    exact funext fun i => h i (Finset.mem_univ i)
  exact (forall_intro fun b => (forall_intro fun hb => hone b hb).trans pure_forall.2).trans pure_forall.2

/-- What a finished run is: the arguments and results on every device, every semaphore at zero. -/
def QC : PUnit × MemSt nD τ sig (Elt F) → Prop := fun r => (∀ d : Dev nD, ∀ b ∈ S5, r.2.mem (d, b) = V5 m d b) ∧ r.2.sem = fun _ => 0

/-- The program's run, when every picked row number is in range. -/
theorem run_main [∀ e, Nonempty (Elt F e)] (hpre : ∀ (d : Dev nD) j, ((V3 m d i' : S65536.Idx → Elt F .i32) j).toNat < 8192) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH)
    (P := P (fun d => V3 m d i') (fun d => V3 m d x')) (A := ∅) facts v₀
    (fun q hq => match q with | 0 => nomatch hq)
    (fun q _ => match q with | 0 => tileObl _ _ hpre)
    (fun q _ => match q with | 0 => SparseCore.Cfg.VecSplit.of_plain (vecSplit _ _))
    m ρ main (fun d => ghost d) (FIN m) (u₀ (F := F)) (sep_elim_left.trans (hu₀ _ _)) (hmain m ρ) (fq m) (hfin m) (QC m) (fun _ h hz => ⟨h, hz⟩)

end Main

end Cert.Proof.Whole

end
-- ==== Proof.FirstLeast.lean ====
/-
  The first place at which a finite family of extended reals is least: it exists, there is one, and a minimum taken as
  a fold is the entry there.
-/
module

public import Mathlib.Data.EReal.Basic
public import Mathlib.Data.Finset.Fold
public import Mathlib.Data.Finset.Lattice.Fold
public import Mathlib.Data.Fintype.Basic
public import Mathlib.Order.Fin.Basic
public import Idealize.ShloMosaic.Lib.Pointwise

@[expose] public section

noncomputable section

namespace Cert.Proof.Whole

/-- `k` is the first place at which `e` is least. -/
def FirstLeast {n : ℕ} (e : Fin n → EReal) (k : Fin n) : Prop :=
  (∀ j, e k ≤ e j) ∧ ∀ j, j < k → e k < e j

/-- A family that is not empty has such a place. -/
theorem exists_firstLeast {n : ℕ} (hn : 0 < n) (e : Fin n → EReal) : ∃ k, FirstLeast e k := by
  haveI : Nonempty (Fin n) := ⟨⟨0, hn⟩⟩
  obtain ⟨i, hi⟩ := Finite.exists_min e
  obtain ⟨k, hk, hmin⟩ := WellFounded.has_min (wellFounded_lt (α := Fin n)) {k | ∀ j, e k ≤ e j} ⟨i, hi⟩
  refine ⟨k, hk, fun j hj => ?_⟩
  rcases lt_or_eq_of_le (hk j) with h | h
  · exact h
  · exact absurd hj (hmin j fun l => h ▸ hk l)

/-- There is one such place. -/
theorem FirstLeast.unique {n : ℕ} {e : Fin n → EReal} {k k' : Fin n} (h : FirstLeast e k) (h' : FirstLeast e k') : k = k' := by
  rcases lt_trichotomy k k' with hk | hk | hk
  · exact absurd (h'.2 k hk) (not_lt.2 (h.1 k'))
  · exact hk
  · exact absurd (h.2 k' hk) (not_lt.2 (h'.1 k))

/-- The first place at which one of 8192 extended reals is least. -/
def firstLeast (e : Fin 8192 → EReal) : Fin 8192 := (exists_firstLeast (by decide) e).choose

/-- Every row of 8192 entries has a first least column. -/
theorem firstLeast_spec (e : Fin 8192 → EReal) : FirstLeast e (firstLeast e) := (exists_firstLeast (by decide) e).choose_spec

end Cert.Proof.Whole

end
-- ==== Proof.DistIdeal.lean ====
/-
  The distance call in exact arithmetic: what one block of it computes, entry by entry. The picked number of a row is
  the first column at which the row's distance is least, and the block's addend is the sum of the squares of those
  least distances.
-/
module

public import proofs.«01_k».proof.Proof.DistVal
public import proofs.«01_k».proof.Proof.FirstLeast
public import Idealize.ShloMosaic.Lib.Pointwise

@[expose] public section

set_option maxRecDepth 16384

noncomputable section

namespace Cert.Proof.Whole

open Cert.KernelIdeal Cert.KernelIdeal.Gen
open Idealize.ShloMosaic Idealize.SL.Sem

/-! ## The constants -/

/-- The word of infinity is infinity. -/
theorem word_inf : Ideal.ofBits .f32 0x7F800000#32 = (⊤ : EReal) := by
  simp [Ideal.ofBits, Ideal.ieee]

/-- The word that marks no column is 8192. -/
theorem word_8192 : Ideal.ofBits .f32 0x46000000#32 = ((8192 : ℝ) : EReal) := by
  simp [Ideal.ofBits, Ideal.ieee]; rw [← EReal.coe_mul]; congr 1; norm_num

/-- The word of the guard is `2^-126`. -/
theorem word_tiny : Ideal.ofBits .f32 0x00800000#32 = (((2 : ℝ) ^ (-126 : ℤ) : ℝ) : EReal) := by
  simp [Ideal.ofBits, Ideal.ieee]; rw [← EReal.coe_mul]; congr 1; norm_num

/-- The word of the loss's scale is `2^-22`. -/
theorem word_scale : Ideal.ofBits .f32 0x34800000#32 = (((2 : ℝ) ^ (-22 : ℤ) : ℝ) : EReal) := by
  simp [Ideal.ofBits, Ideal.ieee]; rw [← EReal.coe_mul]; congr 1; norm_num

/-- The word of a piece's first column. -/
def offWord : Fin 4 → BitVec 32 := ![0x00000000#32, 0x45000000#32, 0x45800000#32, 0x45C00000#32]

/-- The word of a piece's first column is its number. -/
theorem offWord_val (p : Fin 4) : Ideal.ofBits .f32 (offWord p) = ((2048 * p.val : ℝ) : EReal) := by
  fin_cases p <;> simp [offWord, Ideal.ofBits, Ideal.ieee] <;> simp only [← EReal.coe_mul] <;> congr 1 <;> norm_num

/-! ## Rows -/

/-- The least entry of a row is the fold of the minimum over its columns. -/
theorem rowMin_apply (d : FVec Ideal S256x2048 .f32) (r : Fin 256) :
    rowMin d (ix2 r 0) = Finset.univ.fold min ⊤ (fun c : Fin 2048 => d (ix2 r c)) := by
  rw [← word_inf]; pointwise [rowMin]

/-- A mark is the column's number or 8192. -/
theorem markAt_apply (d : FVec Ideal S256x2048 .f32) (m : FVec Ideal S256x1 .f32) (r : Fin 256) (c : Fin 2048) :
    markAt d m (ix2 r c) = if d (ix2 r c) = m (ix2 r 0) then ((c.val : ℝ) : EReal) else ((8192 : ℝ) : EReal) := by
  rw [← word_8192]; pointwise [markAt]
  have h : (BitVec.ofNat 32 c.val).toInt = (c.val : ℤ) := by
    have := c.isLt; rw [BitVec.toInt_eq_toNat_of_lt] <;> rw [BitVec.toNat_ofNat] <;> omega
  show (if _ then ((((BitVec.ofNat 32 c.val).toInt : ℝ)) : EReal) else _) = _
  rw [h]; rfl

/-- The entries of a row over the four pieces. -/
def entry (d : Fin 4 → FVec Ideal S256x2048 .f32) (r : Fin 256) : Fin 8192 → EReal :=
  fun k => d ⟨k.val / 2048, by omega⟩ (ix2 r ⟨k.val % 2048, by omega⟩)

/-- An entry of a piece, as an entry of the row. -/
theorem entry_piece (d : Fin 4 → FVec Ideal S256x2048 .f32) (r : Fin 256) (p : Fin 4) (c : Fin 2048) :
    entry d r ⟨2048 * p.val + c.val, by omega⟩ = d p (ix2 r c) := by
  unfold entry
  have hp : (⟨(2048 * p.val + c.val) / 2048, by omega⟩ : Fin 4) = p := Fin.ext (by simp only []; omega)
  have hc : (⟨(2048 * p.val + c.val) % 2048, by omega⟩ : Fin 2048) = c := Fin.ext (by simp only []; omega)
  rw [hp, hc]

/-- What lies below the least over the four pieces: what lies below each entry. -/
theorem le_leastOf (d : Fin 4 → FVec Ideal S256x2048 .f32) (r : Fin 256) (x : EReal) :
    x ≤ leastOf d (ix2 r 0) ↔ ∀ k, x ≤ entry d r k := by
  have h : leastOf d (ix2 r 0)
      = min (min (rowMin (d 0) (ix2 r 0)) (rowMin (d 1) (ix2 r 0))) (min (rowMin (d 2) (ix2 r 0)) (rowMin (d 3) (ix2 r 0))) := rfl
  have hp : x ≤ leastOf d (ix2 r 0) ↔ ∀ p : Fin 4, ∀ c, x ≤ d p (ix2 r c) := by
    rw [h, le_min_iff, le_min_iff, le_min_iff]
    simp only [rowMin_apply, Finset.le_fold_min, le_top, true_and, Finset.mem_univ, forall_true_left]
    constructor
    · rintro ⟨⟨h0, h1⟩, h2, h3⟩ p
      match p with
      | 0 => exact h0
      | 1 => exact h1
      | 2 => exact h2
      | 3 => exact h3
    · intro H; exact ⟨⟨H 0, H 1⟩, H 2, H 3⟩
  rw [hp]
  exact ⟨fun H k => H _ _, fun H p c => entry_piece d r p c ▸ H _⟩

/-- The least over the four pieces is the entry at the first least place. -/
theorem leastOf_apply (d : Fin 4 → FVec Ideal S256x2048 .f32) (r : Fin 256) :
    leastOf d (ix2 r 0) = entry d r (firstLeast (entry d r)) :=
  le_antisymm ((le_leastOf d r _).1 le_rfl _) ((le_leastOf d r _).2 (firstLeast_spec _).1)

/-- The first column over the four pieces, as a minimum of the four pieces' and 8192. -/
theorem le_pickOf (d : Fin 4 → FVec Ideal S256x2048 .f32) (r : Fin 256) (x : EReal) :
    x ≤ pickOf d (ix2 r 0) ↔ x ≤ ((8192 : ℝ) : EReal) ∧ ∀ p, x ≤ piecePick (d p) (leastOf d) (offWord p) (ix2 r 0) := by
  have h : pickOf d (ix2 r 0) = min (min (min (min (Ideal.ofBits .f32 0x46000000#32)
      (piecePick (d 0) (leastOf d) (offWord 0) (ix2 r 0))) (piecePick (d 1) (leastOf d) (offWord 1) (ix2 r 0)))
      (piecePick (d 2) (leastOf d) (offWord 2) (ix2 r 0))) (piecePick (d 3) (leastOf d) (offWord 3) (ix2 r 0)) := rfl
  rw [h, word_8192, le_min_iff, le_min_iff, le_min_iff, le_min_iff]
  constructor
  · rintro ⟨⟨⟨⟨h8, h0⟩, h1⟩, h2⟩, h3⟩
    refine ⟨h8, fun p => ?_⟩
    match p with
    | 0 => exact h0
    | 1 => exact h1
    | 2 => exact h2
    | 3 => exact h3
  · rintro ⟨h8, H⟩; exact ⟨⟨⟨⟨h8, H 0⟩, H 1⟩, H 2⟩, H 3⟩

/-- A piece's pick is the fold of the minimum over its marks, moved by the piece's first column. -/
theorem piecePick_apply (d : FVec Ideal S256x2048 .f32) (m : FVec Ideal S256x1 .f32) (p : Fin 4) (r : Fin 256) :
    piecePick d m (offWord p) (ix2 r 0)
      = Finset.univ.fold min ⊤ (fun c : Fin 2048 => markAt d m (ix2 r c)) + ((2048 * p.val : ℝ) : EReal) := by
  rw [← rowMin_apply, ← offWord_val]; rfl

/-- The picked number of a row is the first column at which the row's entry is least. -/
theorem pickOf_apply (d : Fin 4 → FVec Ideal S256x2048 .f32) (r : Fin 256) :
    pickOf d (ix2 r 0) = (((firstLeast (entry d r)).val : ℝ) : EReal) := by
  obtain ⟨hle, hlt⟩ := firstLeast_spec (entry d r)
  have hm := leastOf_apply d r
  set k := firstLeast (entry d r) with hk
  apply le_antisymm
  · have h := ((le_pickOf d r _).1 le_rfl).2 ⟨k.val / 2048, by omega⟩
    refine h.trans ?_
    rw [piecePick_apply]
    have hc : markAt (d ⟨k.val / 2048, by omega⟩) (leastOf d) (ix2 r ⟨k.val % 2048, by omega⟩) = (((k.val % 2048 : ℕ) : ℝ) : EReal) := by
      rw [markAt_apply, if_pos (by rw [hm]; rfl)]
    have hf : Finset.univ.fold min ⊤ (fun c : Fin 2048 => markAt (d ⟨k.val / 2048, by omega⟩) (leastOf d) (ix2 r c))
        ≤ (((k.val % 2048 : ℕ) : ℝ) : EReal) :=
      (Finset.fold_min_le _).2 (Or.inr ⟨⟨k.val % 2048, by omega⟩, Finset.mem_univ _, hc.le⟩)
    refine (add_le_add_left hf _).trans ?_
    rw [← EReal.coe_add, EReal.coe_le_coe_iff]
    have : (k.val : ℝ) = ((k.val % 2048 + 2048 * (k.val / 2048) : ℕ) : ℝ) := by rw [Nat.mod_add_div]
    rw [this]; push_cast; exact le_rfl
  · rw [le_pickOf]
    refine ⟨EReal.coe_le_coe_iff.2 (by have := k.isLt; exact_mod_cast this.le), fun p => ?_⟩
    rw [piecePick_apply]
    have hf : (((k.val : ℝ) - 2048 * p.val : ℝ) : EReal) ≤ Finset.univ.fold min ⊤ (fun c : Fin 2048 => markAt (d p) (leastOf d) (ix2 r c)) := by
      rw [Finset.le_fold_min]
      refine ⟨le_top, fun c _ => ?_⟩
      rw [markAt_apply]
      have h8 : (k.val : ℝ) ≤ 8192 := by have := k.isLt; exact_mod_cast this.le
      have hp0 : (0 : ℝ) ≤ p.val := Nat.cast_nonneg _
      split_ifs with he
      · rw [EReal.coe_le_coe_iff]
        have hk' : k.val ≤ 2048 * p.val + c.val := by
          by_contra hc
          have := hlt ⟨2048 * p.val + c.val, by omega⟩ (Fin.lt_def.2 (by simp only []; omega))
          rw [entry_piece, he, hm] at this
          exact lt_irrefl _ this
        have : (k.val : ℝ) ≤ 2048 * p.val + c.val := by exact_mod_cast hk'
        linarith
      · rw [EReal.coe_le_coe_iff]; linarith
    have := add_le_add_left hf ((2048 * p.val : ℝ) : EReal)
    rw [← EReal.coe_add, sub_add_cancel] at this
    exact this

/-- A natural below 2³¹, as the word of the real it is. -/
theorem fptosi_nat (k : ℕ) (hk : k < 2147483648) : Ideal.fptosi 32 (((k : ℝ)) : EReal) = BitVec.ofNat 32 k := by
  show BitVec.ofInt 32 (max (-(2 ^ (32 - 1) : ℕ) : ℤ) (min (((2 ^ (32 - 1) : ℕ) : ℤ) - 1) (if (0 : ℝ) ≤ (k : ℝ) then ⌊(k : ℝ)⌋ else ⌈(k : ℝ)⌉))) = _
  rw [if_pos (Nat.cast_nonneg _), Int.floor_natCast]
  have : (max (-(2 ^ (32 - 1) : ℕ) : ℤ) (min (((2 ^ (32 - 1) : ℕ) : ℤ) - 1) (k : ℤ))) = (k : ℤ) := by
    norm_num; omega
  rw [this, BitVec.ofInt_natCast]

/-- The picked numbers of a block: the half the row lies in, and its row there. -/
theorem pickBlock_apply (d : Fin 2 → Fin 4 → FVec Ideal S256x2048 .f32) (h : Fin 2) (r : Fin 256) :
    pickBlock d (ix2 0 ⟨256 * h.val + r.val, by omega⟩) = BitVec.ofNat 32 (firstLeast (entry (d h) r)).val := by
  rw [← fptosi_nat _ (by omega), ← pickOf_apply]
  match h with
  | 0 => pointwise [pickBlock]; rfl
  | 1 => pointwise [pickBlock]; rfl

/-- The sum of the squares of a column's entries. -/
theorem sumSq_apply (m : FVec Ideal S256x1 .f32) :
    sumSq m = ∑ r : Fin 256, m (ix2 r 0) * m (ix2 r 0) := by
  pointwise [sumSq]
  refine Finset.sum_congr rfl fun r _ => ?_
  simp

/-- An entry of a piece's distances. -/
theorem pieceDist_apply (zb : FVec Ideal S256x64 .f32) (ab : FVec Ideal S256x1 .f32) (cb : FVec Ideal S2048x64 .f32)
    (bb : FVec Ideal S1x2048 .f32) (r : Fin 256) (c : Fin 2048) :
    pieceDist zb ab cb bb (ix2 r c)
      = max (ab (ix2 r 0) + bb (ix2 0 c) - ∑ j, zb (ix2 r j) * cb (ix2 c j)) (Ideal.ofBits .f32 0x00800000#32)
        * Ideal.rsqrt (max (ab (ix2 r 0) + bb (ix2 0 c) - ∑ j, zb (ix2 r j) * cb (ix2 c j)) (Ideal.ofBits .f32 0x00800000#32)) := by
  pointwise [pieceDist]

/-- A row of a half is the row of the block that it is cut from. -/
theorem zHalf_apply (z : FVec Ideal S512x64 .f32) (h : Fin 2) (r : Fin 256) (j : Fin 64) :
    zHalf z h (ix2 r j) = z (ix2 ⟨256 * h.val + r.val, by omega⟩ j) := by
  match h with
  | 0 => pointwise [zHalf]
  | 1 => pointwise [zHalf]

/-- A squared length of a half is that of the block that it is cut from. -/
theorem aHalf_apply (a : FVec Ideal S512x1 .f32) (h : Fin 2) (r : Fin 256) :
    aHalf a h (ix2 r 0) = a (ix2 ⟨256 * h.val + r.val, by omega⟩ 0) := by
  match h with
  | 0 => pointwise [aHalf]
  | 1 => pointwise [aHalf]

/-- A codeword of a piece is the one of the codebook that it is cut from. -/
theorem cbPiece_apply (C : FVec Ideal S8192x64 .f32) (p : Fin 4) (c : Fin 2048) (j : Fin 64) :
    cbPiece C p (ix2 c j) = C (ix2 ⟨2048 * p.val + c.val, by omega⟩ j) := by
  match p with
  | 0 => pointwise [cbPiece]
  | 1 => pointwise [cbPiece]
  | 2 => pointwise [cbPiece]
  | 3 => pointwise [cbPiece]

/-- A squared length of a piece is that of the codebook's codeword. -/
theorem bbPiece_apply (B : FVec Ideal S1x8192 .f32) (p : Fin 4) (c : Fin 2048) :
    bbPiece B p (ix2 0 c) = B (ix2 0 ⟨2048 * p.val + c.val, by omega⟩) := by
  match p with
  | 0 => pointwise [bbPiece]
  | 1 => pointwise [bbPiece]
  | 2 => pointwise [bbPiece]
  | 3 => pointwise [bbPiece]

/-- The guarded distance from a guarded squared distance. -/
def guarded (x : EReal) : EReal :=
  max x (Ideal.ofBits .f32 0x00800000#32) * Ideal.rsqrt (max x (Ideal.ofBits .f32 0x00800000#32))

/-- An entry of a block's distances: of row `256 h + r` from codebook row `k`. -/
theorem entry_blockDist (a : FVec Ideal S512x1 .f32) (B : FVec Ideal S1x8192 .f32) (z : FVec Ideal S512x64 .f32)
    (C : FVec Ideal S8192x64 .f32) (h : Fin 2) (r : Fin 256) (k : Fin 8192) :
    entry (blockDist a B z C h) r k
      = guarded (a (ix2 ⟨256 * h.val + r.val, by omega⟩ 0) + B (ix2 0 k)
          - ∑ j, z (ix2 ⟨256 * h.val + r.val, by omega⟩ j) * C (ix2 k j)) := by
  have hk : (⟨2048 * (k.val / 2048) + k.val % 2048, by omega⟩ : Fin 8192) = k := Fin.ext (Nat.div_add_mod _ _)
  unfold entry blockDist halfDist guarded
  rw [pieceDist_apply, aHalf_apply, bbPiece_apply]
  simp only [zHalf_apply, cbPiece_apply, hk]

end Cert.Proof.Whole

end
-- ==== Proof.DistFinal.lean ====
/-
  The distance call in exact arithmetic, as a whole: each block of a window at coordinates, and what the call leaves in
  its two results — in the first, of each row of `z` the first codebook row at which its guarded distance is least; in
  the second, the sum of the squares of those least distances, scaled.
-/
module

public import proofs.«01_k».proof.Proof.DistRegion
public import proofs.«01_k».proof.Proof.DistIdeal
public import Idealize.ShloMosaic.Lib.Pipeline.ValueKit

@[expose] public section

set_option maxRecDepth 16384

noncomputable section

namespace Cert.Proof.Whole

open Cert.KernelIdeal Cert.KernelIdeal.Gen
open Idealize.ShloMosaic
open Idealize.ShloMosaic.TcCoe
open Idealize.SL Idealize.SL.Sem

variable (V : (c : Dev nD) → (b : Ref sig .tc) → Buf (Elt Ideal) ((c : Thread nD τ).loc b))

/-- At each point the squared lengths' block is the point's own. -/
theorem index0_0 : ∀ t : Fin cfg0.N, win0_0.index t = ![t.val, 0] :=
  (by decide +kernel : ∀ t : Fin grid0.N, win0_0.index t = ![t.val, 0])
/-- The codewords' squared lengths come whole at each point. -/
theorem index0_1 : ∀ t : Fin cfg0.N, win0_1.index t = ![0, 0] :=
  (by decide +kernel : ∀ t : Fin grid0.N, win0_1.index t = ![0, 0])
/-- At each point the block of rows is the point's own. -/
theorem index0_2 : ∀ t : Fin cfg0.N, win0_2.index t = ![t.val, 0] :=
  (by decide +kernel : ∀ t : Fin grid0.N, win0_2.index t = ![t.val, 0])
/-- The doubled codebook comes whole at each point. -/
theorem index0_3 : ∀ t : Fin cfg0.N, win0_3.index t = ![0, 0] :=
  (by decide +kernel : ∀ t : Fin grid0.N, win0_3.index t = ![0, 0])
/-- At each point the picked numbers' block is the point's own. -/
theorem index0_4 : ∀ t : Fin cfg0.N, win0_4.index t = ![0, t.val] :=
  (by decide +kernel : ∀ t : Fin grid0.N, win0_4.index t = ![0, t.val])
/-- The loss is one block for all points. -/
theorem index0_5 : ∀ t : Fin cfg0.N, win0_5.index t = ![0, 0] :=
  (by decide +kernel : ∀ t : Fin grid0.N, win0_5.index t = ![0, 0])

/-! ## The four arrays the call reads -/

/-- The squared lengths of `z`'s rows. -/
def aArr (c : Dev nD) : FVec Ideal S65536x1 .f32 := V c main_v2

/-- The squared lengths of the codebook's rows. -/
def bArr (c : Dev nD) : FVec Ideal S1x8192 .f32 := V c main_v5

/-- The rows of `z`. -/
def zArr (c : Dev nD) : FVec Ideal S65536x64 .f32 := V c main_arg0

/-- The doubled codebook. -/
def cArr (c : Dev nD) : FVec Ideal S8192x64 .f32 := V c main_v6

/-! ## The blocks -/

/-- Point `t` of the grid. -/
abbrev pnt (t : Fin 128) : Fin cfg0.N := ⟨t.val, t.isLt.trans_eq N_0.symm⟩

/-- A point's block of squared lengths, entry by entry. -/
theorem blk_0 (c : Dev nD) (t : Fin 128) (r : Fin 512) :
    (blk V c 0 (pnt t) : FVec Ideal S512x1 .f32) (ix2 r 0)
      = aArr V c (ix2 ⟨512 * t.val + r.val, by omega⟩ 0) := by
  show aArr V c (((cfg0.win 0).blk (pnt t)).view.emb (ix2 r 0)) = _
  congr 1
  blk_ext [index0_0]

/-- A point's block of the codewords' squared lengths, entry by entry. -/
theorem blk_1 (c : Dev nD) (t : Fin 128) (k : Fin 8192) :
    (blk V c 1 (pnt t) : FVec Ideal S1x8192 .f32) (ix2 0 k)
      = bArr V c (ix2 0 k) := by
  show bArr V c (((cfg0.win 1).blk (pnt t)).view.emb (ix2 0 k)) = _
  congr 1
  blk_ext [index0_1]

/-- A point's block of rows, entry by entry. -/
theorem blk_2 (c : Dev nD) (t : Fin 128) (r : Fin 512) (j : Fin 64) :
    (blk V c 2 (pnt t) : FVec Ideal S512x64 .f32) (ix2 r j)
      = zArr V c (ix2 ⟨512 * t.val + r.val, by omega⟩ j) := by
  show zArr V c (((cfg0.win 2).blk (pnt t)).view.emb (ix2 r j)) = _
  congr 1
  blk_ext [index0_2]

/-- A point's block of the doubled codebook, entry by entry. -/
theorem blk_3 (c : Dev nD) (t : Fin 128) (k : Fin 8192) (j : Fin 64) :
    (blk V c 3 (pnt t) : FVec Ideal S8192x64 .f32) (ix2 k j)
      = cArr V c (ix2 k j) := by
  show cArr V c (((cfg0.win 3).blk (pnt t)).view.emb (ix2 k j)) = _
  congr 1
  blk_ext [index0_3]

/-! ## The entries -/

/-- The guarded distance of row `n` from codebook row `k`, from the arrays the call reads. -/
def rowEntry (c : Dev nD) (n : Fin 65536) : Fin 8192 → EReal := fun k =>
  guarded (aArr V c (ix2 n 0) + bArr V c (ix2 0 k)
    - ∑ j, zArr V c (ix2 n j) * cArr V c (ix2 k j))

/-- A row of a point's distances is a row of the whole. -/
theorem entry_distAt (c : Dev nD) (t : Fin 128) (h : Fin 2) (r : Fin 256) :
    entry (distAt V c (pnt t) h) r = rowEntry V c ⟨512 * t.val + (256 * h.val + r.val), by omega⟩ := by
  funext k
  unfold distAt rowEntry
  rw [entry_blockDist, blk_0, blk_1]
  simp only [blk_2, blk_3]

/-! ## The picked numbers -/

/-- The first result, from the points' picks. -/
theorem arr_4 (c : Dev nD) :
    ((dat V c).arrAt 4 cfg0.N : S1x65536.Idx → BitVec 32)
      = fun i => (pickBlock (distAt V c (pnt ⟨(i 1).val / 512, by have : (i 1).val < 65536 := (i 1).isLt; omega⟩)) : S1x512.Idx → BitVec 32)
          (ix2 0 ⟨(i 1).val % 512, by omega⟩) := by
  refine (dat V c).arrAt_eq_of_covers 4 _ (by decide +kernel) fun t hf y => ?_
  blk_simp [index0_4]
  have hy : (y 1).val < 512 := (y 1).isLt
  have ht : t.val < 128 := t.isLt.trans_eq N_0
  show (pickBlock (distAt V c t) : S1x512.Idx → BitVec 32) y = _
  have e1 : (pnt ⟨(t.val * 512 + (y 1).val) / 512, by omega⟩ : Fin cfg0.N) = t := Fin.ext (by simp only []; omega)
  have e2 : (ix2 0 ⟨(t.val * 512 + (y 1).val) % 512, by omega⟩ : S1x512.Idx) = y := by
    funext a
    match a with
    | 0 => exact Fin.ext (by have : (y 0).val < 1 := (y 0).isLt; show 0 = (y 0).val; omega)
    | 1 => exact Fin.ext (by show (t.val * 512 + (y 1).val) % 512 = (y 1).val; omega)
  exact (congrArg₂ (fun p q => (pickBlock (distAt V c p) : S1x512.Idx → BitVec 32) q) e1 e2).symm

/-- The first result at a row: the first codebook row at which the row's distance is least. -/
theorem arr_4_apply (c : Dev nD) (n : Fin 65536) :
    ((dat V c).arrAt 4 cfg0.N : S1x65536.Idx → BitVec 32) (ix2 0 n) = BitVec.ofNat 32 (firstLeast (rowEntry V c n)).val := by
  rw [arr_4]
  have h := pickBlock_apply (distAt V c (pnt ⟨n.val / 512, by omega⟩)) ⟨n.val % 512 / 256, by omega⟩ ⟨n.val % 512 % 256, by omega⟩
  rw [entry_distAt] at h
  have e1 : (⟨256 * (n.val % 512 / 256) + n.val % 512 % 256, by omega⟩ : Fin 512) = ⟨n.val % 512, by omega⟩ := Fin.ext (by simp only []; omega)
  have e2 : (⟨512 * (n.val / 512) + (256 * (n.val % 512 / 256) + n.val % 512 % 256), by omega⟩ : Fin 65536) = n := Fin.ext (by simp only []; omega)
  simp only [e1, e2] at h
  exact h

end Cert.Proof.Whole

end
-- ==== Proof.DistSum.lean ====
/-
  The distance call's running sum in exact arithmetic: after the last point it is the sum of the squares of all rows'
  least distances, scaled by `2^-22`.
-/
module

public import proofs.«01_k».proof.Proof.DistFinal
public import Idealize.ShloMosaic.Lib.Pipeline.ValueKit

@[expose] public section

set_option maxRecDepth 16384

noncomputable section

namespace Cert.Proof.Whole

open Cert.KernelIdeal Cert.KernelIdeal.Gen
open Idealize.ShloMosaic
open Idealize.ShloMosaic.TcCoe
open Idealize.SL Idealize.SL.Sem

variable (V : (c : Dev nD) → (b : Ref sig .tc) → Buf (Elt Ideal) ((c : Thread nD τ).loc b))

/-! ## The running sum -/

/-- The square of a row's least distance. -/
def leastSq (c : Dev nD) (n : Fin 65536) : EReal :=
  rowEntry V c n (firstLeast (rowEntry V c n)) * rowEntry V c n (firstLeast (rowEntry V c n))

/-- What a point adds to the running sum. -/
def addend (c : Dev nD) (t : Fin 128) : EReal :=
  ∑ r : Fin 512, leastSq V c ⟨t.val * 512 + r.val, by omega⟩

/-- The squares of a half's least distances, added up. -/
theorem sumSq_half (c : Dev nD) (t : Fin 128) (h : Fin 2) :
    sumSq (leastOf (distAt V c (pnt t) h)) = ∑ r : Fin 256, leastSq V c ⟨512 * t.val + (256 * h.val + r.val), by omega⟩ := by
  rw [sumSq_apply]
  exact Finset.sum_congr rfl fun r _ => by rw [leastOf_apply, entry_distAt, leastSq]

/-- A block's two sums of squares are the squares of its rows' least distances, added up. -/
theorem sumSq_block (c : Dev nD) (t : Fin 128) :
    sumSq (leastOf (distAt V c (pnt t) 0)) + sumSq (leastOf (distAt V c (pnt t) 1)) = addend V c t := by
  rw [sumSq_half, sumSq_half, addend, Fin.sum_univ_two_halves 256 256 rfl]
  refine congrArg₂ (· + ·) (Finset.sum_congr rfl fun r _ => congrArg (leastSq V c) (Fin.ext ?_))
    (Finset.sum_congr rfl fun r _ => congrArg (leastSq V c) (Fin.ext ?_))
  · show 512 * t.val + (256 * 0 + r.val) = t.val * 512 + r.val; omega
  · show 512 * t.val + (256 * 1 + r.val) = t.val * 512 + (256 + r.val); omega

/-- What a block adds to the running sum, the change of shape dropped. -/
theorem addBlock_eq (d : Fin 2 → Fin 4 → FVec Ideal S256x2048 .f32) (s : FVec Ideal S1x1 .f32) :
    addBlock (F := Ideal) d s = addf s (broadcast S1x1 (Scalar.addf (sumSq (leastOf (d 0))) (sumSq (leastOf (d 1))))) :=
  congrArg (fun y => addf (F := Ideal) (φ := .f32) y (broadcast S1x1 (Scalar.addf (sumSq (leastOf (d 0))) (sumSq (leastOf (d 1))))))
    (shapeCast_self s shapeCasts_S1x1_S1x1)

/-- The scaling of the sum, the change of shape dropped. -/
theorem scaled_eq (s : FVec Ideal S1x1 .f32) :
    scaled (F := Ideal) s = mulf s (broadcast S1x1 (Scalar.ofBits .f32 0x34800000#32)) :=
  congrArg (fun y => mulf (F := Ideal) (φ := .f32) y (broadcast S1x1 (Scalar.ofBits .f32 0x34800000#32)))
    (shapeCast_self s shapeCasts_S1x1_S1x1)

/-- A sum with one number throughout, and a product of two columns, at an index. -/
theorem add_at (s : FVec Ideal S1x1 .f32) (x : EReal) (j) : addf s (broadcast S1x1 (x : Ideal .f32)) j = s j + x := rfl

@[inherit_doc add_at]
theorem mul_at (s t : FVec Ideal S1x1 .f32) (j) : mulf s t j = s j * t j := rfl

/-- The sum of two numbers is their sum over the extended reals. -/
theorem scalar_add (x y : Ideal .f32) : Scalar.addf (F := Ideal) x y = x + y := rfl

/-- A block adds its rows' squares to the running sum. -/
theorem addBlock_apply (c : Dev nD) (t : Fin 128) (s : FVec Ideal S1x1 .f32) :
    addBlock (F := Ideal) (distAt V c (pnt t)) s (ix2 0 0) = s (ix2 0 0) + addend V c t := by
  rw [addBlock_eq, add_at, scalar_add, sumSq_block]

/-- The scaling multiplies the sum by `2^-22`. -/
theorem scaled_apply (s : FVec Ideal S1x1 .f32) :
    scaled (F := Ideal) s (ix2 0 0) = s (ix2 0 0) * (((2 : ℝ) ^ (-22 : ℤ) : ℝ) : EReal) := by
  rw [scaled_eq, mul_at, ← word_scale]; rfl

/-- One step of the running sum, at its one entry. -/
theorem stepSum_apply (c : Dev nD) (t : Fin 128) (s : FVec Ideal S1x1 .f32) :
    stepSum (F := Ideal) (grid0.coords (pnt t)) (distAt V c (pnt t)) s (ix2 0 0)
      = ((if t.val = 0 then 0 else s (ix2 0 0)) + addend V c t) * (if t.val = 127 then (((2 : ℝ) ^ (-22 : ℤ) : ℝ) : EReal) else 1) := by
  have hc : (grid0.coords (pnt t) 0).val = t.val := coord_val _
  have hs : startSum (F := Ideal) (grid0.coords (pnt t)) s (ix2 0 0) = if t.val = 0 then 0 else s (ix2 0 0) := by
    unfold startSum
    rw [hc]
    split_ifs
    · exact Ideal.ofBits_zero_f32
    · rfl
  unfold stepSum
  rw [hc]
  by_cases h1 : t.val = 127
  · rw [if_pos h1, if_pos h1, scaled_apply, addBlock_apply, hs]
  · rw [if_neg h1, if_neg h1, addBlock_apply, hs, mul_one]

/-- The running sum after a later point, from the one before. -/
theorem accAt_succ (c : Dev nD) (n : ℕ) (h : n + 1 < cfg0.N) :
    accAt V c (n + 1) h = stepSum (grid0.coords ⟨n + 1, h⟩) (distAt V c ⟨n + 1, h⟩) (accAt V c n (Nat.lt_of_succ_lt h)) := rfl

/-- A number below 128 is the number of a point. -/
theorem lt_points {n : ℕ} (h : n < 128) : n < cfg0.N := h.trans_eq N_0.symm

/-- The running sum before the last point: the addends so far. -/
theorem accAt_apply (c : Dev nD) : (n : ℕ) → (h : n < 127) →
    accAt (F := Ideal) V c n (lt_points (by omega)) (ix2 0 0) = ∑ t : Fin (n + 1), addend V c ⟨t.val, by omega⟩
  | 0, h => by
    refine (stepSum_apply V c ⟨0, by omega⟩ _).trans ?_
    simp
  | n + 1, h => by
    rw [accAt_succ]
    refine (stepSum_apply V c ⟨n + 1, by omega⟩ _).trans ?_
    rw [accAt_apply c n (by omega), Fin.sum_univ_castSucc (n := n + 1)]
    simp [show n ≠ 126 by omega]

/-- The second result is the running sum at the one point that writes it back. -/
theorem arr_5_at (c : Dev nD) (t : Fin cfg0.N) (h : (cfg0.win 5).WholeAt t) :
    ((dat V c).arrAt 5 cfg0.N : S1x1.Idx → EReal) = accAt (F := Ideal) V c t.val t.isLt := by
  refine (dat V c).arrAt_eq_of_after_last 5 t h _ fun j => ?_
  blk_simp
  rfl

/-- The second result is the running sum after the last point. -/
theorem arr_5 (c : Dev nD) :
    ((dat V c).arrAt 5 cfg0.N : S1x1.Idx → EReal) = accAt (F := Ideal) V c (126 + 1) (lt_points (by decide)) :=
  arr_5_at V c ⟨126 + 1, lt_points (by decide)⟩ (by decide +kernel)

/-- All rows' squares, added up block by block. -/
theorem sum_leastSq (c : Dev nD) : ∑ n : Fin 65536, leastSq V c n = ∑ t : Fin 128, addend V c t := by
  rw [Fin.sum_univ_tiles 128 512 rfl]
  exact Finset.sum_congr rfl fun t _ => by rw [addend]

/-- A sum over 128 points is the one over the first 127, and the last point's. -/
theorem sum_last (f : Fin 128 → EReal) : ∑ t : Fin (126 + 1), f ⟨t.val, by omega⟩ + f ⟨127, by omega⟩ = ∑ t, f t :=
  (Fin.sum_univ_castSucc f).symm

/-- The running sum after the last point: the squares of all rows' least distances, added up and scaled. -/
theorem accAt_last (c : Dev nD) :
    accAt (F := Ideal) V c (126 + 1) (lt_points (by decide)) (ix2 0 0)
      = (∑ n : Fin 65536, leastSq V c n) * (((2 : ℝ) ^ (-22 : ℤ) : ℝ) : EReal) := by
  rw [accAt_succ, sum_leastSq, ← sum_last]
  refine (stepSum_apply V c ⟨126 + 1, by omega⟩ _).trans ?_
  rw [accAt_apply V c 126 (by omega), if_neg (by decide), if_pos rfl]

end Cert.Proof.Whole

end
-- ==== Proof.WholeVal.lean ====
module

public import proofs.«01_k».proof.Proof.WholeRun
public import proofs.«01_k».proof.Proof.DistSum
public import Idealize.ShloMosaic.Lib.StableHlo.ReadAt

@[expose] public section

/-! What the whole kernel computes on the extended reals, read entry by entry.

The host operations before the distance call, between the two calls, and after the row-gathering call are read at an index;
with the arrays that the distance call leaves, this gives each result of the kernel. -/

set_option maxRecDepth 16384

noncomputable section

namespace Cert.Proof.Whole

open Cert.KernelIdeal Cert.KernelIdeal.Gen
open Idealize.ShloMosaic
open Idealize.ShloMosaic.TcCoe
open Idealize.SL Idealize.SL.Sem

variable (m : (ℓ : Loc nD τ sig) → Buf (Elt Ideal) ℓ)

/-- The rows `z` at the launch. -/
def zM (d : Dev nD) : FVec Ideal S65536x64 .f32 := m (d, z')
/-- The codebook at the launch. -/
def cbM (d : Dev nD) : FVec Ideal S8192x64 .f32 := m (d, cb')

/-- The column of squared row lengths handed to the distance call. -/
theorem aArr_apply (d : Dev nD) (n : Fin 65536) : aArr (V1r m) d (ix2 n 0) = ∑ j, zM m d (ix2 n j) * zM m d (ix2 n j) := by
  unfold aArr zM
  show (V1 m d (Proc.devRef .tc (main_v2 : Ref sig .tc)) : FVec Ideal S65536x1 .f32) (ix2 n 0) = _
  unfold V1 ops1
  after_reads_at
  rfl

/-- The row of squared codeword lengths handed to the distance call. -/
theorem bArr_apply (d : Dev nD) (k : Fin 8192) : bArr (V1r m) d (ix2 0 k) = ∑ j, cbM m d (ix2 k j) * cbM m d (ix2 k j) := by
  unfold bArr cbM
  show (V1 m d (Proc.devRef .tc (main_v5 : Ref sig .tc)) : FVec Ideal S1x8192 .f32) (ix2 0 k) = _
  unfold V1 ops1
  after_reads_at
  rfl

/-- The doubled codebook handed to the distance call. -/
theorem cArr_apply (d : Dev nD) (k : Fin 8192) (j : Fin 64) : cArr (V1r m) d (ix2 k j) = cbM m d (ix2 k j) + cbM m d (ix2 k j) := by
  unfold cArr cbM
  show (V1 m d (Proc.devRef .tc (main_v6 : Ref sig .tc)) : FVec Ideal S8192x64 .f32) (ix2 k j) = _
  unfold V1 ops1
  after_reads_at
  rfl

/-- The distance call reads `z` as it was at the launch. -/
theorem zArr_eq (d : Dev nD) : zArr (V1r m) d = zM m d := by
  unfold zArr zM
  show (V1 m d (Proc.devRef .tc (main_arg0 : Ref sig .tc)) : FVec Ideal S65536x64 .f32) = _
  unfold V1 ops1
  after_reads_simp
  rfl

/-- After the distance call its first result holds the chosen codewords. -/
theorem V2_k (d : Dev nD) : V2 m d k' = picks m d := by
  unfold V2
  rw [Function.update_of_ne (by decide), Function.update_self]
/-- After the distance call its second result holds the scaled sum of least squares. -/
theorem V2_s (d : Dev nD) : V2 m d s' = lossArr m d := by
  unfold V2
  rw [Function.update_self]
/-- The distance call leaves every other buffer alone. -/
theorem V2_of (d : Dev nD) (b : DevRef τ sig) (h : b ≠ k') (h' : b ≠ s') : V2 m d b = V1 m d b := by
  unfold V2
  rw [Function.update_of_ne h', Function.update_of_ne h]

/-- The first host operations leave `z` alone. -/
theorem V1_z (d : Dev nD) : V1 m d z' = m (d, z') := by
  unfold V1 ops1
  show StableHlo.after _ (V0 m d) (Proc.devRef .tc (main_arg0 : Ref sig .tc)) = _
  after_reads_simp
  rfl
/-- The first host operations leave the codebook alone. -/
theorem V1_cb (d : Dev nD) : V1 m d cb' = m (d, cb') := by
  unfold V1 ops1
  show StableHlo.after _ (V0 m d) (Proc.devRef .tc (main_arg1 : Ref sig .tc)) = _
  after_reads_simp
  rfl

/-- The row numbers the row-gathering call reads. -/
def idxM (d : Dev nD) : IVec S65536 32 := V3 m d i'

/-- They are the chosen codewords, reshaped. -/
theorem idxM_picks (d : Dev nD) (n : Fin 65536) : idxM m d (ix1 n) = (picks m d : S1x65536.Idx → BitVec 32) (ix2 0 n) := by
  rw [← V2_k]
  unfold idxM V3 ops2
  show (StableHlo.after _ (V2 m d) (Proc.devRef .tc (main_v9 : Ref sig .tc)) : IVec S65536 32) (ix1 n) = _
  after_reads_at

/-- The row number at `n` is that of the nearest codeword, the first among equals. -/
theorem idxM_apply (d : Dev nD) (n : Fin 65536) :
    idxM m d (ix1 n) = BitVec.ofNat 32 (firstLeast (rowEntry (V1r m) d n)).val :=
  (idxM_picks m d n).trans (arr_4_apply (V1r m) d n)

/-- Every row number lies below 8192, so the row-gathering call never reads outside its table. -/
theorem idxM_lt (d : Dev nD) (j : S65536.Idx) : (idxM m d j).toNat < 8192 := by
  idx_vars j
  rw [idxM_apply, BitVec.toNat_ofNat]
  have := (firstLeast (rowEntry (V1r m) d j0)).isLt
  omega

/-- The first 64 columns of the padded table are the codebook. -/
theorem V3_x (d : Dev nD) (k : Fin 8192) (j : Fin 64) :
    (V3 m d x' : FVec Ideal S8192x128 .f32) (ix2 k ⟨j.val, by omega⟩) = cbM m d (ix2 k j) := by
  unfold V3 ops2
  show (StableHlo.after _ (V2 m d) (Proc.devRef .tc (main_v8 : Ref sig .tc)) : FVec Ideal S8192x128 .f32) _ = _
  after_reads_at
  exact congrFun ((V2_of m d cb' (by decide) (by decide)).trans (V1_cb m d)) (ix2 k j)

/-- Between the calls `z` is as at the launch. -/
theorem V3_z (d : Dev nD) : V3 m d z' = m (d, z') := by
  unfold V3 ops2
  show StableHlo.after _ (V2 m d) (Proc.devRef .tc (main_arg0 : Ref sig .tc)) = _
  after_reads_simp
  exact (V2_of m d z' (by decide) (by decide)).trans (V1_z m d)
/-- Between the calls the codebook is as at the launch. -/
theorem V3_cb (d : Dev nD) : V3 m d cb' = m (d, cb') := by
  unfold V3 ops2
  show StableHlo.after _ (V2 m d) (Proc.devRef .tc (main_arg1 : Ref sig .tc)) = _
  after_reads_simp
  exact (V2_of m d cb' (by decide) (by decide)).trans (V1_cb m d)
/-- Between the calls the loss is as the distance call left it. -/
theorem V3_s (d : Dev nD) : V3 m d s' = lossArr m d := by
  unfold V3 ops2
  show StableHlo.after _ (V2 m d) (Proc.devRef .tc (main_v7_1 : Ref sig .tc)) = _
  after_reads_simp
  exact V2_s m d

/-- At the end `z` is as at the launch. -/
theorem V5_z (d : Dev nD) : V5 m d z' = m (d, z') := by
  unfold V5 ops3
  show StableHlo.after _ (V4 m d) (Proc.devRef .tc (main_arg0 : Ref sig .tc)) = _
  after_reads_simp
  exact (V4_of m d z' (by decide)).trans (V3_z m d)
/-- At the end the codebook is as at the launch. -/
theorem V5_cb (d : Dev nD) : V5 m d cb' = m (d, cb') := by
  unfold V5 ops3
  show StableHlo.after _ (V4 m d) (Proc.devRef .tc (main_arg1 : Ref sig .tc)) = _
  after_reads_simp
  exact (V4_of m d cb' (by decide)).trans (V3_cb m d)
/-- At the end the row numbers are those the row-gathering call read. -/
theorem V5_i (d : Dev nD) : V5 m d i' = idxM m d := by
  unfold V5 ops3
  show StableHlo.after _ (V4 m d) (Proc.devRef .tc (main_v9 : Ref sig .tc)) = _
  after_reads_simp
  exact V4_of m d i' (by decide)

/-- The row the row-gathering call brings: that of the codeword chosen for `n`. -/
theorem V4_row (d : Dev nD) (n : Fin 65536) (j : Fin 64) :
    (V4 m d o' : FVec Ideal S65536x128 .f32) (ix2 n ⟨j.val, by omega⟩) = cbM m d (ix2 (firstLeast (rowEntry (V1r m) d n)) j) := by
  rw [V4_o]
  refine Eq.trans (b := (V3 m d x' : FVec Ideal S8192x128 .f32) (cellAt (rowAt (idxM m d (ix1 n))) ⟨j.val, by omega⟩)) ?_ ?_
  · refine congrArg (fun y => (V3 m d x' : FVec Ideal S8192x128 .f32) (cellAt (rowAt (idxM m d y)) ⟨j.val, by omega⟩)) ?_
    funext a; match a with | 0 => rfl
  · rw [← V3_x]
    refine congrArg (V3 m d x' : FVec Ideal S8192x128 .f32) ?_
    have h : rowAt (idxM m d (ix1 n)) = firstLeast (rowEntry (V1r m) d n) := by
      apply Fin.ext
      rw [idxM_apply]
      show (BitVec.ofNat 32 _).toNat % 8192 = _
      rw [BitVec.toNat_ofNat]
      have := (firstLeast (rowEntry (V1r m) d n)).isLt
      omega
    rw [h]
    funext a
    match a with
    | 0 => rfl
    | 1 => rfl

/-- The first result: `z` plus the difference of the chosen codeword and `z`. -/
theorem V5_st (d : Dev nD) (n : Fin 65536) (j : Fin 64) : (V5 m d st' : FVec Ideal S65536x64 .f32) (ix2 n j) =
    zM m d (ix2 n j) + (cbM m d (ix2 (firstLeast (rowEntry (V1r m) d n)) j) - zM m d (ix2 n j)) := by
  rw [← V4_row]
  have hz : zM m d = V4 m d z' := ((V4_of m d z' (by decide)).trans (V3_z m d)).symm
  rw [hz]
  unfold V5 ops3
  show (StableHlo.after _ (V4 m d) (Proc.devRef .tc (main_v13 : Ref sig .tc)) : FVec Ideal S65536x64 .f32) _ = _
  after_reads_at

/-- A one by one array has one index. -/
theorem one_index (i : S1x1.Idx) : i = ix2 0 0 := by
  idx_vars i
  rw [Subsingleton.elim i0 0, Subsingleton.elim i1 0]

/-- The loss: the sum of the least squared distances, scaled. -/
theorem V5_ls (d : Dev nD) : (V5 m d ls' : FVec Ideal S_ .f32) =
    fun _ => (∑ n : Fin 65536, leastSq (V1r m) d n) * (((2:ℝ)^(-22:ℤ) : ℝ) : EReal) := by
  rw [← accAt_last (V1r m) d, ← arr_5 (V1r m) d]
  unfold V5 ops3
  show (StableHlo.after _ (V4 m d) (Proc.devRef .tc (main_v14 : Ref sig .tc)) : FVec Ideal S_ .f32) = _
  after_reads_simp
  have hs : V4 m d (Proc.devRef .tc (main_v7_1 : Ref sig .tc)) = lossArr m d := (V4_of m d s' (by decide)).trans (V3_s m d)
  rw [hs]
  funext i
  exact congrArg (lossArr m d : S1x1.Idx → EReal) (one_index _)

end Cert.Proof.Whole
-- ==== Proof.RefRun.lean ====
/-
  The run of the reference: what each of its results is, as the array operations of its text applied to its arguments.
-/
module

public import proofs.«01_k».proof.Proof.TakeOf
public import proofs.«01_k».proof.Proof.Gen.ReferenceIdeal
public import proofs.«01_k».proof.Proof.Gen.Pre_apart

@[expose] public section

set_option maxRecDepth 16384

noncomputable section

namespace Cert.Proof.Plain

open Cert.ReferenceIdeal Cert.ReferenceIdeal.Gen
open Idealize.ShloMosaic Idealize.SL.Sem
open Idealize.ShloMosaic.ValueIdx

variable (z : FVec Ideal S65536x64 .f32) (cb : FVec Ideal S8192x64 .f32)

/-- The squared distances, as the lengths' sum less twice the products. -/
def sqOf : FVec Ideal S65536x8192 .f32 :=
  subf
    (addf
      (broadcastInDim S65536x8192 ![0, 1] bcast_S65536x1_S65536x8192_0_1 (broadcastInDim S65536x1 ![0] bcast_S65536_S65536x1_0
        (Host.reduceAdd (mulf z z) (constant S_ .f32 0x00000000#32) reducesTo_S65536x64_S65536_d1 h_S_)))
      (broadcastInDim S65536x8192 ![0, 1] bcast_S1x8192_S65536x8192_0_1 (broadcastInDim S1x8192 ![1] bcast_S8192_S1x8192_1
        (Host.reduceAdd (mulf cb cb) (constant S_ .f32 0x00000000#32) reducesTo_S8192x64_S8192_d1 h_S_))))
    (mulf (broadcastInDim S65536x8192 ![] bcast_S_S65536x8192 (constant S_ .f32 0x40000000#32))
      (Host.dotGeneral dot_S65536x64_S64x8192_S65536x8192_1_0_0_1_n_n none z (transpose S64x8192 [1, 0] cb transposes_S8192x64_S64x8192_1_0)))

/-- The distances. -/
def distOf : FVec Ideal S65536x8192 .f32 :=
  Host.sqrt (maximumf (sqOf z cb) (broadcastInDim S65536x8192 ![] bcast_S_S65536x8192 (constant S_ .f32 0x00000000#32)))

/-- The column of the least entry of each row. -/
def argminOf (x : FVec Ideal S65536x8192 .f32) : IVec S65536 32 := fun j =>
  (Host.argReduce reducer_argmin_f32_i32 x (iotaInDim S65536x8192 32 1) (constant S_ .f32 0x7F800000#32) (constantI S_ 32 0#32)
    reducesTo_S65536x8192_S65536_d1 h_S_ j).2

/-- The chosen codewords' numbers. -/
def numsOf : IVec S65536 32 := argminOf (distOf z cb)

/-- The chosen codewords. -/
def rowsFor : FVec Ideal S65536x64 .f32 := Take.takeOf (F := Ideal) cb (numsOf z cb)

/-- The mean of the squares of an array. -/
def meanSq (d : FVec Ideal S65536x64 .f32) : FVec Ideal S_ .f32 :=
  Host.divf (Host.reduceAdd (mulf d d) (constant S_ .f32 0x00000000#32) reducesTo_S65536x64_S_d0_1 h_S_) (constant S_ .f32 0x4A800000#32)

/-- The reference runs; its results are these arrays, and its arguments are as they were. -/
theorem run_reference (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v28)
        = addf (m ((c.tc : Thread nD τ).loc main_arg0)) (subf (rowsFor (m ((c.tc : Thread nD τ).loc main_arg0)) (m ((c.tc : Thread nD τ).loc main_arg1))) (m ((c.tc : Thread nD τ).loc main_arg0)))
      ∧ r.2.mem ((c.tc : Thread nD τ).loc main_v26)
        = meanSq (subf (rowsFor (m ((c.tc : Thread nD τ).loc main_arg0)) (m ((c.tc : Thread nD τ).loc main_arg1))) (m ((c.tc : Thread nD τ).loc main_arg0)))
      ∧ r.2.mem ((c.tc : Thread nD τ).loc main_v22)
        = meanSq (subf (m ((c.tc : Thread nD τ).loc main_arg0)) (rowsFor (m ((c.tc : Thread nD τ).loc main_arg0)) (m ((c.tc : Thread nD τ).loc main_arg1))))
      ∧ r.2.mem ((c.tc : Thread nD τ).loc main_v17)
        = numsOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  all_goals simp -implicitDefEqProofs only [StableHlo.TRef.ofBuf_toBuf, StableHlo.TRef.ofBuf, StableHlo.TRef.toBuf, cast_eq]
  all_goals rfl

/-- The reference runs, and leaves its arguments as they were. -/
theorem frame_reference : Cert.quiescent_ReferenceIdeal := fun m g _ =>
  (θ_run Cert.ReferenceIdeal.defs _ _).mono
    (fun r h => ⟨fun c => (h c).2.2.2.2, Idealize.ShloMosaic.sem_eq_zero_of_no_sems (by decide) r.2⟩) (run_reference m g)

/-- The same, said again under the precondition. -/
theorem frame_reference_pre : Cert.quiescent_ReferenceIdeal_pre_apart := fun m g _ => frame_reference m g trivial

end Cert.Proof.Plain

end
-- ==== Proof.ArgMin.lean ====
/-
  Taking the column of a row's least entry, as the reference does it: pairs of an entry and its column are folded by a
  comparison that keeps the lesser entry, and of equal entries the lesser column. The fold gives the first column at
  which the row is least.
-/
module

public import proofs.«01_k».proof.Proof.RefRun
public import proofs.«01_k».proof.Proof.DistIdeal
public import Idealize.ShloMosaic.PureOps.Ideal.Laws

@[expose] public section

set_option maxRecDepth 16384

noncomputable section

namespace Cert.Proof.Plain

open Cert.ReferenceIdeal Cert.ReferenceIdeal.Gen
open Idealize.ShloMosaic
open Cert.Proof.Whole (FirstLeast firstLeast firstLeast_spec)

/-- A pair comes strictly before another: a lesser entry, or the same entry and a lesser column. -/
def Before (a b : EReal × BitVec 32) : Prop := a.1 < b.1 ∨ (a.1 = b.1 ∧ a.2.toInt < b.2.toInt)

open Classical in
/-- The comparison keeps the pair that comes before. -/
theorem step_eq (a b : Ideal .f32 × BitVec 32) : reducer_argmin_f32_i32 a b = if Before a b then a else b := by
  have h1 : FloatOps.cmpf .olt a.1 b.1 = BitVec.ofBool (decide (a.1 < b.1)) := rfl
  have h2 : FloatOps.cmpf .une a.1 a.1 = BitVec.ofBool (decide (a.1 ≠ a.1)) := rfl
  have h3 : FloatOps.cmpf .oeq a.1 b.1 = BitVec.ofBool (decide (a.1 = b.1)) := rfl
  have h4 : IntOp.cmpi .slt a.2 b.2 = BitVec.ofBool (decide (a.2.toInt < b.2.toInt)) := by
    simp only [IntOp.cmpi, BitVec.slt_eq_decide]
  unfold reducer_argmin_f32_i32 Before
  simp only [h1, h2, h3, h4]
  obtain ⟨a1, a2⟩ := a
  obtain ⟨b1, b2⟩ := b
  by_cases p : a1 < b1
  · have q : a1 ≠ b1 := ne_of_lt p
    simp [p, q, IntOp.ori, IntOp.andi, Scalar.select]
  · by_cases q : a1 = b1
    · subst q
      by_cases r : a2.toInt < b2.toInt
      · simp [r, IntOp.ori, IntOp.andi, Scalar.select]
      · simp [r, IntOp.ori, IntOp.andi, Scalar.select]
    · simp [p, q, IntOp.ori, IntOp.andi, Scalar.select]

/-- No pair comes before itself. -/
theorem before_irrefl (x : EReal × BitVec 32) : ¬ Before x x := fun h => h.elim (lt_irrefl _) fun h => lt_irrefl _ h.2

/-- The order of pairs is transitive. -/
theorem before_trans {x y w : EReal × BitVec 32} (h : Before x y) (h' : Before y w) : Before x w := by
  rcases h with h | ⟨h, g⟩
  · rcases h' with h' | ⟨h', _⟩
    · exact .inl (h.trans h')
    · exact .inl (h' ▸ h)
  · rcases h' with h' | ⟨h', g'⟩
    · exact .inl (h ▸ h')
    · exact .inr ⟨h.trans h', by omega⟩

/-- Two different pairs can be compared; so what is not before what is not before is not before. -/
theorem not_before_trans {x y w : EReal × BitVec 32} (h : ¬ Before x y) (h' : ¬ Before y w) : ¬ Before x w := fun g =>
  h (by
    by_contra k
    exact h' (by
      rcases g with g | ⟨g, g'⟩
      · rcases lt_or_ge y.1 w.1 with l | l
        · exact .inl l
        · exact absurd (.inl (lt_of_lt_of_le g l)) k
      · rcases lt_trichotomy y.1 w.1 with l | l | l
        · exact .inl l
        · refine .inr ⟨l, ?_⟩
          by_contra q
          exact k (.inr ⟨g.trans l.symm, by omega⟩)
        · exact absurd (.inl (g ▸ l)) k))

/-- Folding keeps one of the pairs, and none of them comes before it. -/
theorem fold_least (L : List (Ideal .f32 × BitVec 32)) (a : Ideal .f32 × BitVec 32) :
    (L.foldl (reducer_argmin_f32_i32 (F := Ideal)) a = a ∨ L.foldl (reducer_argmin_f32_i32 (F := Ideal)) a ∈ L)
      ∧ ¬ Before a (L.foldl (reducer_argmin_f32_i32 (F := Ideal)) a) ∧ ∀ b ∈ L, ¬ Before b (L.foldl (reducer_argmin_f32_i32 (F := Ideal)) a) := by
  induction L generalizing a with
  | nil => exact ⟨.inl rfl, before_irrefl a, fun b hb => absurd hb List.not_mem_nil⟩
  | cons c L ih =>
    have hs := step_eq a c
    obtain ⟨h1, h2, h3⟩ := ih (reducer_argmin_f32_i32 (F := Ideal) a c)
    rw [List.foldl_cons]
    by_cases hb : Before a c
    · rw [if_pos hb] at hs
      rw [hs] at h1 h2 h3 ⊢
      refine ⟨h1.imp_right (List.mem_cons_of_mem c), h2, fun b hbm => ?_⟩
      rcases List.mem_cons.1 hbm with rfl | hbm
      · exact fun g => h2 (before_trans hb g)
      · exact h3 b hbm
    · rw [if_neg hb] at hs
      rw [hs] at h1 h2 h3 ⊢
      refine ⟨?_, not_before_trans hb h2, fun b hbm => ?_⟩
      · rcases h1 with h1 | h1
        · exact .inr (by rw [h1]; exact List.mem_cons_self)
        · exact .inr (List.mem_cons_of_mem c h1)
      · rcases List.mem_cons.1 hbm with rfl | hbm
        · exact h2
        · exact h3 b hbm

/-- The same of a reduction of two arrays by that comparison, at an index `j` of its result. -/
theorem reduce_least {s t u : Shape} {axes : List (Fin s.rank)} (x : FVec Ideal s .f32) (y : IVec s 32) (ix : FVec Ideal u .f32) (iy : IVec u 32)
    (h : s.ReducesTo axes t) (hu : 0 < u.numel) (j : t.Idx) (p : EReal × BitVec 32)
    (hp : p = Host.argReduce (reducer_argmin_f32_i32 (F := Ideal)) x y ix iy h hu j) :
    (p = (ix (Shape.Idx.first hu), iy (Shape.Idx.first hu)) ∨ ∃ i, h.drop i = j ∧ p = (x i, y i))
      ∧ ∀ i, h.drop i = j → ¬ Before (x i, y i) p := by
  rw [Ideal.argReduce_eq_reduce2, Host.reduce2_eq_foldl_fiber] at hp
  obtain ⟨h1, -, h3⟩ := fold_least (Host.argReduceFiber x y h j) (ix (Shape.Idx.first hu), iy (Shape.Idx.first hu))
  rw [← hp] at h1 h3
  have hm : ∀ q, q ∈ Host.argReduceFiber x y h j ↔ ∃ i, h.drop i = j ∧ q = (x i, y i) := by
    intro q
    unfold Host.argReduceFiber
    simp only [List.mem_map, List.mem_filter, List.mem_finRange, true_and, decide_eq_true_eq]
    exact ⟨fun ⟨n, hn, e⟩ => ⟨_, hn, e.symm⟩, fun ⟨i, hi, e⟩ => ⟨s.rowMajor i, by rw [Equiv.symm_apply_apply]; exact hi, by rw [Equiv.symm_apply_apply]; exact e.symm⟩⟩
  exact ⟨h1.imp_right fun g => (hm _).1 g, fun i hi => h3 _ ((hm _).2 ⟨i, hi, rfl⟩)⟩

/-- Of the pairs of a row's entries and columns, and of the pair of infinity and zero, the least is at the first column
    at which the row is least. -/
theorem least_column (e : Fin 8192 → EReal) (p : EReal × BitVec 32)
    (h : p = (⊤, 0#32) ∨ ∃ k : Fin 8192, p = (e k, BitVec.ofNat 32 k.val))
    (hl : ∀ k : Fin 8192, ¬ Before (e k, BitVec.ofNat 32 k.val) p) : p.2 = BitVec.ofNat 32 (firstLeast e).val := by
  have hs := firstLeast_spec e
  generalize firstLeast e = q at hs
  have hi : ∀ k : Fin 8192, (BitVec.ofNat 32 k.val).toInt = k.val := fun k => by
    have := k.isLt
    rw [BitVec.toInt_eq_toNat_of_lt (by rw [BitVec.toNat_ofNat]; omega), BitVec.toNat_ofNat]; omega
  rcases h with rfl | ⟨k, rfl⟩
  · have h0 : q = 0 := by
      by_contra hq
      have := hs.2 0 (Fin.pos_of_ne_zero hq)
      exact hl q (.inl (lt_of_lt_of_le this le_top))
    rw [h0]; rfl
  · have hk : q = k := by
      rcases lt_trichotomy q k with g | g | g
      · rcases lt_or_eq_of_le (hs.1 k) with l | l
        · exact absurd (.inl l) (hl q)
        · refine absurd (.inr ⟨l, ?_⟩) (hl q)
          show (BitVec.ofNat 32 q.val).toInt < (BitVec.ofNat 32 k.val).toInt
          rw [hi, hi]
          have : q.val < k.val := g
          omega
      · exact g
      · exact absurd (.inl (hs.2 k g)) (hl q)
    rw [hk]

/-- The start of the fold is infinity. -/
theorem start_value (i : S_.Idx) : (constant S_ .f32 0x7F800000#32 : FVec Ideal S_ .f32) i = (⊤ : EReal) := Whole.word_inf

/-- Dropping the column of an entry's index leaves its row. -/
theorem drop_column (n : Fin 65536) (k : Fin 8192) : reducesTo_S65536x8192_S65536_d1.drop (ix2 n k) = ix1 n :=
  funext fun a => match a with | 0 => rfl

/-- The pair that the fold keeps in each row. -/
def pairOf (x : FVec Ideal S65536x8192 .f32) (j : S65536.Idx) : EReal × BitVec 32 :=
  Host.argReduce (reducer_argmin_f32_i32 (F := Ideal)) x (iotaInDim S65536x8192 32 1) (constant S_ .f32 0x7F800000#32) (constantI S_ 32 0#32)
    reducesTo_S65536x8192_S65536_d1 h_S_ j

/-- The pair kept in row `n` is infinity and zero, or an entry of the row and its column; and no entry's pair comes before it. -/
theorem pairOf_least (x : FVec Ideal S65536x8192 .f32) (n : Fin 65536) :
    (pairOf x (ix1 n) = (⊤, 0#32) ∨ ∃ k : Fin 8192, pairOf x (ix1 n) = (x (ix2 n k), BitVec.ofNat 32 k.val))
      ∧ ∀ k : Fin 8192, ¬ Before (x (ix2 n k), BitVec.ofNat 32 k.val) (pairOf x (ix1 n)) := by
  have h := reduce_least x (iotaInDim S65536x8192 32 1) (constant S_ .f32 0x7F800000#32) (constantI S_ 32 0#32)
    reducesTo_S65536x8192_S65536_d1 h_S_ (ix1 n) (pairOf x (ix1 n)) rfl
  generalize pairOf x (ix1 n) = p at h ⊢
  obtain ⟨h1, h2⟩ := h
  rw [start_value] at h1
  refine ⟨h1.imp id ?_, fun k => h2 (ix2 n k) (drop_column n k)⟩
  rintro ⟨i, hi, g⟩
  idx_vars i
  rw [drop_column] at hi
  have e : i0 = n := congrFun hi 0
  subst e
  exact ⟨i1, g⟩

/-- The chosen column is the kept pair's. -/
theorem argminOf_eq (x : FVec Ideal S65536x8192 .f32) : argminOf x = fun j => (pairOf x j).2 := rfl

/-- The column chosen in row `n` is the first at which the row is least. -/
theorem argminOf_apply (x : FVec Ideal S65536x8192 .f32) (n : Fin 65536) :
    argminOf x (ix1 n) = BitVec.ofNat 32 (firstLeast fun k => x (ix2 n k)).val :=
  (congrFun (argminOf_eq x) (ix1 n)).trans
    (least_column (fun k => x (ix2 n k)) (pairOf x (ix1 n)) (pairOf_least x n).1 (pairOf_least x n).2)

end Cert.Proof.Plain

end
-- ==== Proof.ApartVal.lean ====
/-
  What the precondition `apart` says, and what the reference's distances are under it: the inputs are real numbers, and
  each squared distance is a real number not below the least normal number, so that the distance is its square root.
-/
module

public import proofs.«01_k».proof.Proof.ArgMin
public import Idealize.ShloMosaic.Lib.Pointwise

@[expose] public section

set_option maxRecDepth 16384

noncomputable section

namespace Cert.Proof.Plain

open Cert.ReferenceIdeal Cert.ReferenceIdeal.Gen
open Idealize.ShloMosaic

variable (z : FVec Ideal S65536x64 .f32) (cb : FVec Ideal S8192x64 .f32)

/-- The word of two. -/
theorem word_two : Ideal.ofBits .f32 0x40000000#32 = ((2:ℝ) : EReal) := by
  simp [Ideal.ofBits, Ideal.ieee]
  rw [← EReal.coe_mul]
  congr 1
  norm_num

/-- The word of 65536 times 64. -/
theorem word_count : Ideal.ofBits .f32 0x4A800000#32 = (((2:ℝ)^(22:ℕ) : ℝ) : EReal) := by
  simp [Ideal.ofBits, Ideal.ieee]
  rw [← EReal.coe_mul]
  congr 1
  norm_num

/-- A squared distance, entry by entry. -/
theorem sqOf_apply (n : Fin 65536) (k : Fin 8192) : sqOf z cb (ix2 n k) =
    (∑ j, z (ix2 n j) * z (ix2 n j)) + (∑ j, cb (ix2 k j) * cb (ix2 k j)) - ((2:ℝ) : EReal) * ∑ j, z (ix2 n j) * cb (ix2 k j) := by
  pointwise [sqOf]
  rw [word_two]

/-- A distance, entry by entry. -/
theorem distOf_apply (n : Fin 65536) (k : Fin 8192) : distOf z cb (ix2 n k) = Ideal.sqrt (max (sqOf z cb (ix2 n k)) 0) := by
  pointwise [distOf]

/-- The precondition in one term. -/
theorem apart_eq : Cert.Pre_apart.fn (F := Ideal) z cb =
    andi (andi
      (Host.reduce IntOp.andi (cmpf .olt (Host.absf z) (broadcastInDim S65536x64 ![] Cert.Pre_apart.Gen.bcast_S_S65536x64 (constant S_ .f32 0x7F800000#32)))
        (constantI S_ 1 1#1) reducesTo_S65536x64_S_d0_1 h_S_)
      (Host.reduce IntOp.andi (cmpf .olt (Host.absf cb) (broadcastInDim S8192x64 ![] Cert.Pre_apart.Gen.bcast_S_S8192x64 (constant S_ .f32 0x7F800000#32)))
        (constantI S_ 1 1#1) Cert.Pre_apart.Gen.reducesTo_S8192x64_S_d0_1 h_S_))
      (Host.reduce IntOp.andi (cmpf .oge (sqOf z cb) (broadcastInDim S65536x8192 ![] bcast_S_S65536x8192 (constant S_ .f32 0x00800000#32)))
        (constantI S_ 1 1#1) Cert.Pre_apart.Gen.reducesTo_S65536x8192_S_d0_1 h_S_) := by
  rfl

/-- The conjunction of two bits is one exactly when both are. -/
theorem andi_one {a b : BitVec 1} (h : IntOp.andi a b = 1#1) : a = 1#1 ∧ b = 1#1 := by
  revert h; revert a b; decide

/-- An array of no axes has one entry. -/
instance : Subsingleton S_.Idx := ⟨fun _ _ => funext fun a => a.elim0⟩

/-- What the precondition says of the entries. -/
theorem apart_spec (h : Cert.Pre_apart.fn (F := Ideal) z cb = fun _ => 1#1) :
    (∀ i, max (z i : EReal) (-(z i)) < ⊤) ∧ (∀ i, max (cb i : EReal) (-(cb i)) < ⊤) ∧
      ∀ n k, (((2:ℝ)^(-126:ℤ) : ℝ) : EReal) ≤ sqOf z cb (ix2 n k) := by
  rw [apart_eq] at h
  obtain ⟨h12, h3⟩ := andi_one (congrFun h fun a => a.elim0)
  obtain ⟨h1, h2⟩ := andi_one h12
  have bit : ∀ p : Prop, ∀ [Decidable p], BitVec.ofBool (decide p) = 1#1 → p := fun p _ e => by
    by_contra hp
    rw [decide_eq_false hp] at e
    exact absurd e (by decide)
  refine ⟨fun i => ?_, fun i => ?_, fun n k => ?_⟩
  · have e : BitVec.ofBool (decide (max (z i : EReal) (-(z i)) < Ideal.ofBits .f32 0x7F800000#32)) = 1#1 :=
      Host.reduce_andi_all _ _ _ _ _ h1 i
    rw [Whole.word_inf] at e
    exact bit _ e
  · have e : BitVec.ofBool (decide (max (cb i : EReal) (-(cb i)) < Ideal.ofBits .f32 0x7F800000#32)) = 1#1 :=
      Host.reduce_andi_all _ _ _ _ _ h2 i
    rw [Whole.word_inf] at e
    exact bit _ e
  · generalize sqOf z cb = s at h3 ⊢
    have e : BitVec.ofBool (decide (Ideal.ofBits .f32 0x00800000#32 ≤ s (ix2 n k))) = 1#1 :=
      Host.reduce_andi_all _ _ _ _ _ h3 (ix2 n k)
    rw [Whole.word_tiny] at e
    exact bit _ e

/-- The mean of squares, as a sum over all entries. -/
theorem meanSq_apply (d : FVec Ideal S65536x64 .f32) (i : S_.Idx) : meanSq d i =
    Ideal.div (∑ n, ∑ j, d (ix2 n j) * d (ix2 n j)) (((2:ℝ)^(22:ℕ) : ℝ) : EReal) := by
  rw [← word_count]
  pointwise [meanSq]

end Cert.Proof.Plain

end
-- ==== Proof.RealDist.lean ====
/-
  Distances of real rows: the squared distance written as lengths less twice the product is the sum of the squared
  differences, and the root taken in either of the two ways gives the same number where the square is not too small.
-/
module

public import proofs.«01_k».proof.Proof.DistIdeal

@[expose] public section

noncomputable section

namespace Cert.Proof.Plain

open Idealize.ShloMosaic

/-- The coercion of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real of finite absolute value is a real number. -/
theorem exists_real (x : EReal) (h : max x (-x) < ⊤) : ∃ r : ℝ, x = r := by
  have ht : x ≠ ⊤ := ne_of_lt (lt_of_le_of_lt (le_max_left _ _) h)
  have hb : x ≠ ⊥ := by
    rintro rfl
    exact absurd (lt_of_le_of_lt (le_max_right _ _) h) (by simp)
  exact ⟨x.toReal, (EReal.coe_toReal ht hb).symm⟩

/-- The squared distance of two real rows. -/
def gap (a b : Fin 64 → ℝ) : ℝ := ∑ j, (a j - b j) * (a j - b j)

/-- It is the lengths' sum less twice the product. -/
theorem gap_eq (a b : Fin 64 → ℝ) : gap a b = (∑ j, a j * a j) + (∑ j, b j * b j) - 2 * ∑ j, a j * b j := by
  unfold gap
  rw [Finset.mul_sum, ← Finset.sum_add_distrib, ← Finset.sum_sub_distrib]
  exact Finset.sum_congr rfl fun j _ => by ring

/-- The lengths' sum less twice the product, on the extended reals. -/
theorem gap_of_twice (a b : Fin 64 → ℝ) :
    (∑ j, (a j : EReal) * a j) + (∑ j, (b j : EReal) * b j) - ((2:ℝ) : EReal) * ∑ j, (a j : EReal) * b j = (gap a b : EReal) := by
  simp only [← EReal.coe_mul, ← coe_sum, ← EReal.coe_add, ← EReal.coe_sub]
  rw [gap_eq]

/-- The same with the second row doubled before the product. -/
theorem gap_of_doubled (a b : Fin 64 → ℝ) :
    (∑ j, (a j : EReal) * a j) + (∑ j, (b j : EReal) * b j) - ∑ j, (a j : EReal) * ((b j : EReal) + b j) = (gap a b : EReal) := by
  simp only [← EReal.coe_mul, ← EReal.coe_add, ← coe_sum, ← EReal.coe_sub]
  rw [gap_eq, Finset.mul_sum]
  exact congrArg _ (congrArg _ (Finset.sum_congr rfl fun j _ => by ring))

/-- The plain root of a square that is not negative. -/
theorem plain_root (x : ℝ) (h : 0 ≤ x) : Ideal.sqrt (max (x : EReal) 0) = (Real.sqrt x : EReal) := by
  rw [max_eq_left (by exact_mod_cast h)]
  show (if x < 0 then ⊥ else (Real.sqrt x : EReal)) = _
  rw [if_neg (not_lt.2 h)]

/-- The guarded root of a square that is not below the guard. -/
theorem guarded_root (x : ℝ) (h : (2:ℝ)^(-126:ℤ) ≤ x) : Whole.guarded (x : EReal) = (Real.sqrt x : EReal) := by
  have hx : 0 < x := lt_of_lt_of_le (by positivity) h
  unfold Whole.guarded
  rw [Whole.word_tiny, max_eq_left (by exact_mod_cast h)]
  show (x : EReal) * (if x < 0 then (⊥ : EReal) else if x = 0 then (⊤ : EReal) else (((Real.sqrt x)⁻¹ : ℝ) : EReal)) = _
  rw [if_neg (not_lt.2 hx.le), if_neg hx.ne', ← EReal.coe_mul]
  congr 1
  rw [← div_eq_mul_inv, Real.div_sqrt]

/-- Dividing by 65536 times 64 is scaling by its inverse. -/
theorem div_count (x : EReal) : Ideal.div x (((2:ℝ)^(22:ℕ) : ℝ) : EReal) = x * (((2:ℝ)^(-22:ℤ) : ℝ) : EReal) := by
  unfold Ideal.div
  rw [if_neg (by norm_num), ← EReal.coe_inv]
  congr 2

end Cert.Proof.Plain

end
-- ==== Proof.WholeClaims.lean ====
/-
  The claims about the whole kernel: it runs from any memory and leaves its arguments alone; and where the precondition
  `apart` holds, each of its results is the reference's.
-/
module

public import proofs.«01_k».proof.Proof.WholeVal
public import proofs.«01_k».proof.Proof.ApartVal
public import proofs.«01_k».proof.Proof.RealDist

@[expose] public section

set_option maxRecDepth 16384

noncomputable section

namespace Cert.Proof.Whole

open Cert.KernelIdeal Cert.KernelIdeal.Gen
open Idealize.ShloMosaic
open Idealize.SL Idealize.SL.Sem

/-- The whole kernel runs on the extended reals from any memory: no row number leaves the table. -/
theorem run_ideal (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩ (QC m) :=
  run_main m ρ (fun d j => idxM_lt m d j)

/-- What a run leaves in one of the named buffers. -/
theorem QC.read {m : (ℓ : Loc nD τ sig) → Buf (Elt Ideal) ℓ} {r} (h : QC m r) (c : Dev nD) (b : Ref sig .tc)
    (hb : Proc.devRef .tc b ∈ S5) : r.2.mem ((c.tc : Thread nD τ).loc b) = V5 m c (Proc.devRef .tc b) := h.1 c _ hb

/-- The whole kernel runs, and leaves its arguments as they were. -/
theorem frame_whole : Cert.quiescent_KernelIdeal := fun m ρ _ =>
  (θ_run Cert.KernelIdeal.defs _ _).mono
    (fun _ h => ⟨fun c => ⟨(h.read c main_arg0 (by decide)).trans (V5_z m c), (h.read c main_arg1 (by decide)).trans (V5_cb m c)⟩, h.2⟩)
    (run_ideal m ρ)

/-- The same, said again under the precondition. -/
theorem frame_whole_pre : Cert.quiescent_KernelIdeal_pre_apart := fun m ρ _ => frame_whole m ρ trivial

section Values

variable (m : (ℓ : Loc nD τ sig) → Buf (Elt Ideal) ℓ) (d : Dev nD)
  (hp : Cert.Pre_apart.fn (F := Ideal) (zM m d) (cbM m d) = fun _ => 1#1)

include hp

/-- Under the precondition the inputs are real numbers, and no codeword is too near a row. -/
theorem reals : ∃ (a : Fin 65536 → Fin 64 → ℝ) (b : Fin 8192 → Fin 64 → ℝ), (∀ n j, zM m d (ix2 n j) = (a n j : EReal)) ∧
    (∀ k j, cbM m d (ix2 k j) = (b k j : EReal)) ∧ ∀ n k, (2:ℝ)^(-126:ℤ) ≤ Plain.gap (a n) (b k) := by
  obtain ⟨h1, h2, h3⟩ := Plain.apart_spec (zM m d) (cbM m d) hp
  choose a ha using fun n j => Plain.exists_real _ (h1 (ix2 n j))
  choose b hb using fun k j => Plain.exists_real _ (h2 (ix2 k j))
  refine ⟨a, b, ha, hb, fun n k => ?_⟩
  have := h3 n k
  rw [Plain.sqOf_apply] at this
  simp only [ha, hb] at this
  rw [Plain.gap_of_twice] at this
  exact_mod_cast this

omit hp in
/-- A row of the kernel's distances, as roots. -/
theorem rowEntry_root {a : Fin 65536 → Fin 64 → ℝ} {b : Fin 8192 → Fin 64 → ℝ} (ha : ∀ n j, zM m d (ix2 n j) = (a n j : EReal))
    (hb : ∀ k j, cbM m d (ix2 k j) = (b k j : EReal)) (hg : ∀ n k, (2:ℝ)^(-126:ℤ) ≤ Plain.gap (a n) (b k)) (n : Fin 65536) (k : Fin 8192) :
    rowEntry (V1r m) d n k = (Real.sqrt (Plain.gap (a n) (b k)) : EReal) := by
  unfold rowEntry
  rw [aArr_apply, bArr_apply, zArr_eq]
  simp only [cArr_apply, ha, hb]
  rw [Plain.gap_of_doubled, Plain.guarded_root _ (hg n k)]

omit hp in
/-- A row of the reference's distances, as roots. -/
theorem distOf_root {a : Fin 65536 → Fin 64 → ℝ} {b : Fin 8192 → Fin 64 → ℝ} (ha : ∀ n j, zM m d (ix2 n j) = (a n j : EReal))
    (hb : ∀ k j, cbM m d (ix2 k j) = (b k j : EReal)) (hg : ∀ n k, (2:ℝ)^(-126:ℤ) ≤ Plain.gap (a n) (b k)) (n : Fin 65536) (k : Fin 8192) :
    Plain.distOf (zM m d) (cbM m d) (ix2 n k) = (Real.sqrt (Plain.gap (a n) (b k)) : EReal) := by
  rw [Plain.distOf_apply, Plain.sqOf_apply]
  simp only [ha, hb]
  rw [Plain.gap_of_twice, Plain.plain_root _ (le_trans (by positivity) (hg n k))]

/-- The kernel's rows of distances are the reference's. -/
theorem rows_agree (n : Fin 65536) : (fun k => Plain.distOf (zM m d) (cbM m d) (ix2 n k)) = rowEntry (V1r m) d n := by
  obtain ⟨a, b, ha, hb, hg⟩ := reals m d hp
  funext k
  rw [rowEntry_root m d ha hb hg, distOf_root m d ha hb hg]

/-- The numbers of the chosen codewords agree. -/
theorem nums_agree : Plain.numsOf (zM m d) (cbM m d) = idxM m d := by
  funext i
  idx_vars i
  unfold Plain.numsOf
  rw [Plain.argminOf_apply, idxM_apply, rows_agree m d hp]

/-- A row the reference takes is the codeword chosen by the kernel. -/
theorem taken (n : Fin 65536) (j : Fin 64) :
    Plain.rowsFor (zM m d) (cbM m d) (ix2 n j) = cbM m d (ix2 (firstLeast (rowEntry (V1r m) d n)) j) := by
  unfold Plain.rowsFor
  rw [nums_agree m d hp]
  refine (Take.takeOf_apply (F := Ideal) (cbM m d) (idxM m d) (idxM_lt m d) (ix2 n j)).trans ?_
  refine congrArg (fun k => cbM m d (ix2 k j)) (Fin.ext ?_)
  have e : Take.rowNo (ix2 n j) = ix1 n := funext fun a => match a with | 0 => rfl
  show (idxM m d (Take.rowNo (ix2 n j))).toNat = _
  rw [e, idxM_apply, BitVec.toNat_ofNat]
  have := (firstLeast (rowEntry (V1r m) d n)).isLt
  omega

/-- The first results agree. -/
theorem st_agree : addf (zM m d) (subf (Plain.rowsFor (zM m d) (cbM m d)) (zM m d)) = V5 m d st' := by
  funext i
  idx_vars i
  rw [V5_st, ← taken m d hp]
  rfl

/-- The mean of squares of any array that has the rows' differences up to sign is the kernel's loss. -/
theorem loss_agree (e : FVec Ideal S65536x64 .f32)
    (he : ∀ n j, e (ix2 n j) * e (ix2 n j)
      = (zM m d (ix2 n j) - Plain.rowsFor (zM m d) (cbM m d) (ix2 n j)) * (zM m d (ix2 n j) - Plain.rowsFor (zM m d) (cbM m d) (ix2 n j))) :
    Plain.meanSq e = V5 m d ls' := by
  obtain ⟨a, b, ha, hb, hg⟩ := reals m d hp
  refine Eq.trans (funext fun i => ?_) (V5_ls m d).symm
  rw [Plain.meanSq_apply, Plain.div_count]
  refine congrArg (fun y : EReal => y * (((2:ℝ)^(-22:ℤ) : ℝ) : EReal)) (Finset.sum_congr rfl fun n _ => ?_)
  unfold leastSq
  simp only [he, taken m d hp, ha, hb, rowEntry_root m d ha hb hg]
  simp only [← EReal.coe_mul, ← EReal.coe_sub, ← Plain.coe_sum]
  rw [Real.mul_self_sqrt (le_trans (by positivity) (hg n _))]
  rfl

/-- The square of a difference of the inputs' entries does not depend on the order. -/
theorem square_flip (n : Fin 65536) (j : Fin 64) (q : EReal) (hq : ∃ k, q = cbM m d (ix2 k j)) :
    (q - zM m d (ix2 n j)) * (q - zM m d (ix2 n j)) = (zM m d (ix2 n j) - q) * (zM m d (ix2 n j) - q) := by
  obtain ⟨a, b, ha, hb, -⟩ := reals m d hp
  obtain ⟨k, rfl⟩ := hq
  rw [ha, hb]
  simp only [← EReal.coe_mul, ← EReal.coe_sub]
  congr 1
  ring

/-- The commitment losses agree. -/
theorem commitment_agree : Plain.meanSq (subf (zM m d) (Plain.rowsFor (zM m d) (cbM m d))) = V5 m d ls' :=
  loss_agree m d hp _ fun _ _ => rfl

/-- The codebook losses agree. -/
theorem codebook_agree : Plain.meanSq (subf (Plain.rowsFor (zM m d) (cbM m d)) (zM m d)) = V5 m d ls' :=
  loss_agree m d hp _ fun n j => square_flip m d hp n j _ ⟨_, taken m d hp n j⟩

end Values

/-- Where the precondition holds, the whole kernel's results are the reference's. -/
theorem values : Cert.algebraic_KernelIdeal_ReferenceIdeal_pre_apart := fun m g m' g' hpre hagree =>
  ⟨fun c => V5 m c st', fun c => V5 m c ls', fun c => V5 m c ls', fun c => V5 m c i',
    (θ_run Cert.KernelIdeal.defs _ _).mono
      (fun _ h c => ⟨h.read c main_v13 (by decide), h.read c main_v14 (by decide), h.read c main_v14 (by decide), h.read c main_v9 (by decide),
        (h.read c main_arg0 (by decide)).trans (V5_z m c), (h.read c main_arg1 (by decide)).trans (V5_cb m c)⟩) (run_ideal m g),
    (θ_run Cert.ReferenceIdeal.defs _ _).mono
      (fun _ h c => by
        obtain ⟨h0, h1, h2, h3, h4⟩ := h c
        rw [(hagree c).1, (hagree c).2] at h0 h1 h2 h3
        exact ⟨h0.trans (st_agree m c (hpre c)), h1.trans (codebook_agree m c (hpre c)), h2.trans (commitment_agree m c (hpre c)),
          h3.trans ((nums_agree m c (hpre c)).trans (V5_i m c).symm), h4⟩) (Plain.run_reference m' g')⟩

end Cert.Proof.Whole

end
-- ==== Proof.lean ====
/-
  The claims of the directory put together.
-/
module

public import proofs.«01_k».proof.Defs
public import proofs.«01_k».proof.Proof.GatherClaims
public import proofs.«01_k».proof.Proof.WholeClaims
public import proofs.«01_k».proof.Proof.Gen.Gather
public import proofs.«01_k».proof.Proof.Gen.GatherIdeal
public import proofs.«01_k».proof.Proof.Gen.TakeIdeal
public import proofs.«01_k».proof.Proof.Gen.Pre_in_range
public import proofs.«01_k».proof.Proof.Gen.Pre_apart
public import proofs.«01_k».proof.Proof.Gen.ReferenceIdeal
public import proofs.«01_k».proof.Proof.Gen.KernelIdeal.Points
public import proofs.«01_k».proof.Proof.Gen.KernelIdeal.Skeleton
public import proofs.«01_k».proof.Proof.Gen.KernelIdeal.Launch

@[expose] public section

noncomputable section

namespace Cert.Proof

open Idealize.ShloMosaic

/-- Every claim of the statement. -/
theorem claim : Cert.Claim :=
  ⟨Cert.Gather.Gen.facts, Cert.GatherIdeal.Gen.facts, Cert.TakeIdeal.Gen.facts, Cert.KernelIdeal.Gen.facts, Cert.ReferenceIdeal.Gen.facts,
    Cert.Pre_in_range.Gen.facts, Cert.Pre_apart.Gen.facts,
    Rows.frame_words, Rows.frame_ideal, Rows.frame_take, Rows.frame_take_pre,
    Whole.frame_whole, Whole.frame_whole_pre, Plain.frame_reference, Plain.frame_reference_pre,
    trivial, Rows.values, Whole.values⟩

end Cert.Proof

end
